-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "step" .f32 0x38020610#32 ((1 / 32258 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x256x128 : Shape := ⟨3, ![2, 256, 128]⟩
abbrev S2x128 : Shape := ⟨2, ![2, 128]⟩
abbrev S128x40 : Shape := ⟨2, ![128, 40]⟩
abbrev S40 : Shape := ⟨1, ![40]⟩
abbrev S1x128 : Shape := ⟨2, ![1, 128]⟩
abbrev S_ : Shape := ⟨0, ![]⟩
abbrev S1x256x128 : Shape := ⟨3, ![1, 256, 128]⟩
abbrev S256x128 : Shape := ⟨2, ![256, 128]⟩
abbrev S10000x256 : Shape := ⟨2, ![10000, 256]⟩

class Facts : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x256x128_S1x256x128_0_0_0 : S2x256x128.Slices ![0, 0, 0] S1x256x128
  shapeCasts_S1x256x128_S256x128 : S1x256x128.ShapeCasts S256x128
  concatenates_S10000x128_S10000x128_S10000x256_d1 : Shape.Concatenates [S10000x128, S10000x128] S10000x256 1
  bcast_S_S10000x10000 : S_.BroadcastsInDim S10000x10000 (![] : Fin 0 → Fin S10000x10000.rank)
  reducesTo_S10000x128_S128_d0 : S10000x128.ReducesTo [0] S128
  h_S_ : 0 < S_.numel
  bcast_S_S1x128 : S_.BroadcastsInDim S1x128 (![] : Fin 0 → Fin S1x128.rank)
  bcast_S_S128x128 : S_.BroadcastsInDim S128x128 (![] : Fin 0 → Fin S128x128.rank)
  bcast_S_S128 : S_.BroadcastsInDim S128 (![] : Fin 0 → Fin S128.rank)
  bcast_S_S2x256x128 : S_.BroadcastsInDim S2x256x128 (![] : Fin 0 → Fin S2x256x128.rank)
  bcast_S_S2x128 : S_.BroadcastsInDim S2x128 (![] : Fin 0 → Fin S2x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def fn_relu {F : FTy → Type} [FloatOps F] (arg0 : FVec F S10000x128 .f32) : FVec F S10000x128 .f32 :=
  let cst : FVec F S_ .f32 := constant S_ .f32 0x00000000#32
  let v0 : FVec F S10000x128 .f32 := broadcastInDim S10000x128 ![] bcast_S_S10000x128 cst
  let v1 : FVec F S10000x128 .f32 := maximumf arg0 v0
  v1

def fn_round {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_round_0 {F : FTy → Type} [FloatOps F] (arg0 : FVec F S10000x128 .f32) : FVec F S10000x128 .f32 :=
  let v0 : FVec F S10000x128 .f32 := Host.roundeven arg0
  v0

def fn_clip_1 {F : FTy → Type} [FloatOps F] (arg0 : FVec F S10000x128 .f32) (arg1 : FVec F S_ .f32) (arg2 : FVec F S_ .f32) : FVec F S10000x128 .f32 :=
  let v0 : FVec F S_ .f32 := id arg1
  let v1 : FVec F S10000x128 .f32 := broadcastInDim S10000x128 ![] bcast_S_S10000x128 v0
  let v2 : FVec F S10000x128 .f32 := maximumf v1 arg0
  let v3 : FVec F S_ .f32 := id arg2
  let v4 : FVec F S10000x128 .f32 := broadcastInDim S10000x128 ![] bcast_S_S10000x128 v3
  let v5 : FVec F S10000x128 .f32 := minimumf v4 v2
  v5

def fn_part3 {F : FTy → Type} [FloatOps F] (main_arg6 : FVec F S2x128 .f32) (main_v24 : FVec F S10000x10000 .f32) (main_v34 : FVec F S10000x128 .f32) (main_v39 : IVec S10000x128 1) (main_v42 : IVec S10000x10000 1) (main_v45 : IVec S128x128 1) (main_v48 : IVec S128 1) (main_v51 : IVec S2x256x128 1) (main_v52 : FVec F S2x256x128 .f32) (main_cst_17 : FVec F S_ .f32) : IVec S10000x128 1 × IVec S10000x10000 1 × IVec S128x128 1 × IVec S128 1 × IVec S2x256x128 1 × IVec S2x256x128 1 × IVec S2x128 1 × IVec S10000x128 1 :=
  let main_v53 : FVec F S2x256x128 .f32 := broadcastInDim S2x256x128 ![] bcast_S_S2x256x128 main_cst_17
  let main_v54 : IVec S2x256x128 1 := cmpf .olt main_v52 main_v53
  let main_v55 : FVec F S2x128 .f32 := Host.absf main_arg6
  let main_cst_18 : FVec F S_ .f32 := constant S_ .f32 0x7F800000#32
  let main_v56 : FVec F S2x128 .f32 := broadcastInDim S2x128 ![] bcast_S_S2x128 main_cst_18
  let main_v57 : IVec S2x128 1 := cmpf .olt main_v55 main_v56
  let main_v58 : FVec F S10000x10000 .f32 := Host.absf main_v24
  let main_v59 : FVec F S10000x128 .f32 := Host.absf main_v34
  let main_v60 : FVec F S10000x128 .f32 := (fun l r => Host.dotGeneral dot_S10000x10000_S10000x128_S10000x128_1_0_0_1_n_n none l r) main_v58 main_v59
  let main_cst_19 : FVec F S_ .f32 := constant S_ .f32 0x4B800000#32
  let main_v61 : FVec F S10000x128 .f32 := broadcastInDim S10000x128 ![] bcast_S_S10000x128 main_cst_19
  let main_v62 : IVec S10000x128 1 := cmpf .olt main_v60 main_v61
  (main_v39, main_v42, main_v45, main_v48, main_v51, main_v54, main_v57, main_v62)

def fn_part2 {F : FTy → Type} [FloatOps F] (main_arg0 : FVec F S10000x128 .f32) (main_arg1 : FVec F S10000x10000 .f32) (main_arg2 : FVec F S128x128 .f32) (main_arg3 : FVec F S128 .f32) (main_arg4 : FVec F S2x256x128 .f32) (main_arg5 : FVec F S2x256x128 .f32) (main_arg6 : FVec F S2x128 .f32) (main_v24 : FVec F S10000x10000 .f32) (main_v28 : FVec F S1x128 .f32) (main_v34 : FVec F S10000x128 .f32) (main_cst_11 : FVec F S_ .f32) : IVec S10000x128 1 × IVec S10000x10000 1 × IVec S128x128 1 × IVec S128 1 × IVec S2x256x128 1 × IVec S2x256x128 1 × IVec S2x128 1 × IVec S10000x128 1 :=
  let main_v35 : FVec F S1x128 .f32 := broadcastInDim S1x128 ![] bcast_S_S1x128 main_cst_11
  let main_v36 : FVec F S1x128 .f32 := Host.divf main_v28 main_v35
  let main_v37 : FVec F S10000x128 .f32 := Host.absf main_arg0
  let main_cst_12 : FVec F S_ .f32 := constant S_ .f32 0x7F800000#32
  let main_v38 : FVec F S10000x128 .f32 := broadcastInDim S10000x128 ![] bcast_S_S10000x128 main_cst_12
  let main_v39 : IVec S10000x128 1 := cmpf .olt main_v37 main_v38
  let main_v40 : FVec F S10000x10000 .f32 := Host.absf main_arg1
  let main_cst_13 : FVec F S_ .f32 := constant S_ .f32 0x7F800000#32
  let main_v41 : FVec F S10000x10000 .f32 := broadcastInDim S10000x10000 ![] bcast_S_S10000x10000 main_cst_13
  let main_v42 : IVec S10000x10000 1 := cmpf .olt main_v40 main_v41
  let main_v43 : FVec F S128x128 .f32 := Host.absf main_arg2
  let main_cst_14 : FVec F S_ .f32 := constant S_ .f32 0x7F800000#32
  let main_v44 : FVec F S128x128 .f32 := broadcastInDim S128x128 ![] bcast_S_S128x128 main_cst_14
  let main_v45 : IVec S128x128 1 := cmpf .olt main_v43 main_v44
  let main_v46 : FVec F S128 .f32 := Host.absf main_arg3
  let main_cst_15 : FVec F S_ .f32 := constant S_ .f32 0x7F800000#32
  let main_v47 : FVec F S128 .f32 := broadcastInDim S128 ![] bcast_S_S128 main_cst_15
  let main_v48 : IVec S128 1 := cmpf .olt main_v46 main_v47
  let main_v49 : FVec F S2x256x128 .f32 := Host.absf main_arg4
  let main_cst_16 : FVec F S_ .f32 := constant S_ .f32 0x7F800000#32
  let main_v50 : FVec F S2x256x128 .f32 := broadcastInDim S2x256x128 ![] bcast_S_S2x256x128 main_cst_16
  let main_v51 : IVec S2x256x128 1 := cmpf .olt main_v49 main_v50
  let main_v52 : FVec F S2x256x128 .f32 := Host.absf main_arg5
  let main_cst_17 : FVec F S_ .f32 := constant S_ .f32 0x7F800000#32
  fn_part3 (F := F) main_arg6 main_v24 main_v34 main_v39 main_v42 main_v45 main_v48 main_v51 main_v52 main_cst_17

def fn_part1 {F : FTy → Type} [FloatOps F] (main_arg0 : FVec F S10000x128 .f32) (main_arg1 : FVec F S10000x10000 .f32) (main_arg2 : FVec F S128x128 .f32) (main_arg3 : FVec F S128 .f32) (main_arg4 : FVec F S2x256x128 .f32) (main_arg5 : FVec F S2x256x128 .f32) (main_arg6 : FVec F S2x128 .f32) (main_v18 : FVec F S10000x128 .f32) (main_v19 : FVec F S10000x10000 .f32) : IVec S10000x128 1 × IVec S10000x10000 1 × IVec S128x128 1 × IVec S128 1 × IVec S2x256x128 1 × IVec S2x256x128 1 × IVec S2x128 1 × IVec S10000x128 1 :=
  let main_v20 : FVec F S10000x10000 .f32 := mulf main_v19 main_arg1
  let main_cst_3 : FVec F S_ .f32 := constant S_ .f32 0x42FE0000#32
  let main_v21 : FVec F S10000x10000 .f32 := broadcastInDim S10000x10000 ![] bcast_S_S10000x10000 main_cst_3
  let main_v22 : FVec F S10000x10000 .f32 := subf main_v20 main_v21
  let main_v23 : FVec F S10000x10000 .f32 := fn_round (F := F) main_v22
  let main_cst_4 : FVec F S_ .f32 := constant S_ .f32 0xC3000000#32
  let main_cst_5 : FVec F S_ .f32 := constant S_ .f32 0x42FE0000#32
  let main_v24 : FVec F S10000x10000 .f32 := fn_clip (F := F) main_v23 main_cst_4 main_cst_5
  let main_cst_6 : FVec F S_ .f32 := constant S_ .f32 0xFF800000#32
  let main_v25 : FVec F S128 .f32 := (fun x v => Host.reduce FloatOps.maximumf x v reducesTo_S10000x128_S128_d0 h_S_) main_v18 main_cst_6
  let main_v26 : FVec F S1x128 .f32 := broadcastInDim S1x128 ![1] bcast_S128_S1x128_1 main_v25
  let main_cst_7 : FVec F S_ .f32 := constant S_ .f32 0x1E3CE508#32
  let main_v27 : FVec F S1x128 .f32 := broadcastInDim S1x128 ![] bcast_S_S1x128 main_cst_7
  let main_v28 : FVec F S1x128 .f32 := maximumf main_v26 main_v27
  let main_cst_8 : FVec F S_ .f32 := constant S_ .f32 0x42FE0000#32
  let main_v29 : FVec F S1x128 .f32 := broadcastInDim S1x128 ![] bcast_S_S1x128 main_cst_8
  let main_v30 : FVec F S1x128 .f32 := Host.divf main_v29 main_v28
  let main_v31 : FVec F S10000x128 .f32 := broadcastInDim S10000x128 ![0, 1] bcast_S1x128_S10000x128_0_1 main_v30
  let main_v32 : FVec F S10000x128 .f32 := mulf main_v18 main_v31
  let main_v33 : FVec F S10000x128 .f32 := fn_round_0 (F := F) main_v32
  let main_cst_9 : FVec F S_ .f32 := constant S_ .f32 0xC3000000#32
  let main_cst_10 : FVec F S_ .f32 := constant S_ .f32 0x42FE0000#32
  let main_v34 : FVec F S10000x128 .f32 := fn_clip_1 (F := F) main_v33 main_cst_9 main_cst_10
  let main_cst_11 : FVec F S_ .f32 := constant S_ .f32 0x42FE0000#32
  fn_part2 (F := F) main_arg0 main_arg1 main_arg2 main_arg3 main_arg4 main_arg5 main_arg6 main_v24 main_v28 main_v34 main_cst_11

def fn {F : FTy → Type} [FloatOps F] (main_arg0 : FVec F S10000x128 .f32) (main_arg1 : FVec F S10000x10000 .f32) (main_arg2 : FVec F S128x128 .f32) (main_arg3 : FVec F S128 .f32) (main_arg4 : FVec F S2x256x128 .f32) (main_arg5 : FVec F S2x256x128 .f32) (main_arg6 : FVec F S2x128 .f32) (main_arg7 : FVec F S128 .f32) (main_arg8 : FVec F S128 .f32) (main_arg9 : FVec F S128 .f32) (main_arg10 : FVec F S128 .f32) (main_arg11 : FVec F S128x40 .f32) (main_arg12 : FVec F S40 .f32) : IVec S10000x128 1 × IVec S10000x10000 1 × IVec S128x128 1 × IVec S128 1 × IVec S2x256x128 1 × IVec S2x256x128 1 × IVec S2x128 1 × IVec S10000x128 1 :=
  let main_v0 : FVec F S10000x128 .f32 := (fun l r => Host.dotGeneral dot_S10000x128_S128x128_S10000x128_1_0_0_1_n_n none l r) main_arg0 main_arg2
  let main_v1 : FVec F S1x128 .f32 := broadcastInDim S1x128 ![1] bcast_S128_S1x128_1 main_arg3
  let main_v2 : FVec F S10000x128 .f32 := broadcastInDim S10000x128 ![0, 1] bcast_S1x128_S10000x128_0_1 main_v1
  let main_v3 : FVec F S10000x128 .f32 := addf main_v0 main_v2
  let main_v4 : FVec F S10000x128 .f32 := fn_relu (F := F) main_v3
  let main_v5 : FVec F S10000x128 .f32 := (fun l r => Host.dotGeneral dot_S10000x10000_S10000x128_S10000x128_1_0_0_1_n_n none l r) main_arg1 main_v4
  let main_v6 : FVec F S1x256x128 .f32 := (extractStridedSlice S1x256x128 ![0, 0, 0] · slices_S2x256x128_S1x256x128_0_0_0) main_arg4
  let main_v7 : FVec F S256x128 .f32 := shapeCast S256x128 main_v6 shapeCasts_S1x256x128_S256x128
  let main_v8 : FVec F S10000x256 .f32 := (fun a b => concatenate S10000x256 1 [⟨S10000x128, a⟩, ⟨S10000x128, b⟩] concatenates_S10000x128_S10000x128_S10000x256_d1) main_v5 main_v4
  let main_v9 : FVec F S10000x128 .f32 := (fun l r => Host.dotGeneral dot_S10000x256_S256x128_S10000x128_1_0_0_1_n_n none l r) main_v8 main_v7
  let main_cst : FVec F S_ .f32 := constant S_ .f32 0x3ECF991F#32
  let main_v10 : FVec F S10000x128 .f32 := broadcastInDim S10000x128 ![] bcast_S_S10000x128 main_cst
  let main_v11 : FVec F S10000x128 .f32 := mulf main_v10 main_v9
  let main_cst_0 : FVec F S_ .f32 := constant S_ .f32 0x3F08FB18#32
  let main_v12 : FVec F S10000x128 .f32 := broadcastInDim S10000x128 ![] bcast_S_S10000x128 main_cst_0
  let main_v13 : FVec F S10000x128 .f32 := mulf main_v12 main_v5
  let main_v14 : FVec F S10000x128 .f32 := addf main_v11 main_v13
  let main_cst_1 : FVec F S_ .f32 := constant S_ .f32 0x3F879C2C#32
  let main_v15 : FVec F S10000x128 .f32 := broadcastInDim S10000x128 ![] bcast_S_S10000x128 main_cst_1
  let main_v16 : FVec F S10000x128 .f32 := mulf main_v15 main_v4
  let main_v17 : FVec F S10000x128 .f32 := addf main_v14 main_v16
  let main_v18 : FVec F S10000x128 .f32 := fn_relu (F := F) main_v17
  let main_cst_2 : FVec F S_ .f32 := constant S_ .f32 0x437E0000#32
  let main_v19 : FVec F S10000x10000 .f32 := broadcastInDim S10000x10000 ![] bcast_S_S10000x10000 main_cst_2
  fn_part1 (F := F) main_arg0 main_arg1 main_arg2 main_arg3 main_arg4 main_arg5 main_arg6 main_v18 main_v19
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x256x128 : Shape := ⟨3, ![2, 256, 128]⟩
abbrev S2x128 : Shape := ⟨2, ![2, 128]⟩
abbrev S128x40 : Shape := ⟨2, ![128, 40]⟩
abbrev S40 : Shape := ⟨1, ![40]⟩
abbrev S_ : Shape := ⟨0, ![]⟩
abbrev S1x128x128 : Shape := ⟨3, ![1, 128, 128]⟩
abbrev S1x128 : Shape := ⟨2, ![1, 128]⟩
abbrev S25x400x10000 : Shape := ⟨3, ![25, 400, 10000]⟩
abbrev S8x128 : Shape := ⟨2, ![8, 128]⟩
abbrev S400x10000 : Shape := ⟨2, ![400, 10000]⟩
abbrev S1x400x10000 : Shape := ⟨3, ![1, 400, 10000]⟩
abbrev S400x128 : Shape := ⟨2, ![400, 128]⟩
abbrev S400 : Shape := ⟨1, ![400]⟩
abbrev S400x1 : Shape := ⟨2, ![400, 1]⟩
abbrev S1x40 : Shape := ⟨2, ![1, 40]⟩
abbrev S10000x40 : Shape := ⟨2, ![10000, 40]⟩
abbrev S400x40 : Shape := ⟨2, ![400, 40]⟩

abbrev nBuf : Space → Nat
  | .hbm => 86
  | .vmem => 43
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S2x256x128, .f32⟩
  | .hbm, ⟨5, _⟩ => ⟨S2x256x128, .f32⟩
  | .hbm, ⟨6, _⟩ => ⟨S2x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .f32⟩
  | .hbm, ⟨20, _⟩ => ⟨S1x128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S1x128x128, .f32⟩
  | .hbm, ⟨30, _⟩ => ⟨S128x128, .f32⟩
  | .hbm, ⟨31, _⟩ => ⟨S_, .f32⟩
  | .hbm, ⟨32, _⟩ => ⟨S128x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S1x128x128, .f32⟩
  | .hbm, ⟨39, _⟩ => ⟨S128x128, .f32⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S1x128x128, .f32⟩
  | .hbm, ⟨48, _⟩ => ⟨S128x128, .f32⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S1x128x128, .f32⟩
  | .hbm, ⟨57, _⟩ => ⟨S128x128, .f32⟩
  | .hbm, ⟨58, _⟩ => ⟨S1x128x128, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S128x128, .f32⟩
  | .hbm, ⟨63, _⟩ => ⟨S1x128x128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S25x400x10000, .i8⟩
  | .hbm, ⟨76, _⟩ => ⟨S10000x128, .i8⟩
  | .hbm, ⟨77, _⟩ => ⟨S10000x128, .f32⟩
  | .hbm, ⟨78, _⟩ => ⟨S10000x128, .f32⟩
  | .hbm, ⟨79, _⟩ => ⟨S8x128, .f32⟩
  | .hbm, ⟨80, _⟩ => ⟨S8x128, .f32⟩
  | .hbm, ⟨81, _⟩ => ⟨S1x128, .f32⟩
  | .hbm, ⟨82, _⟩ => ⟨S1x128, .f32⟩
  | .hbm, ⟨83, _⟩ => ⟨S1x40, .f32⟩
  | .hbm, ⟨84, _⟩ => ⟨S10000x40, .f32⟩
  | .hbm, ⟨85, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x400x10000, .i8⟩
  | .local _ .vmem, ⟨15, _⟩ => ⟨S1x400x10000, .i8⟩
  | .local _ .vmem, ⟨16, _⟩ => ⟨S10000x128, .i8⟩
  | .local _ .vmem, ⟨17, _⟩ => ⟨S400x128, .f32⟩
  | .local _ .vmem, ⟨18, _⟩ => ⟨S400x128, .f32⟩
  | .local _ .vmem, ⟨19, _⟩ => ⟨S400x128, .f32⟩
  | .local _ .vmem, ⟨20, _⟩ => ⟨S400x128, .f32⟩
  | .local _ .vmem, ⟨21, _⟩ => ⟨S8x128, .f32⟩
  | .local _ .vmem, ⟨22, _⟩ => ⟨S8x128, .f32⟩
  | .local _ .vmem, ⟨23, _⟩ => ⟨S10000x128, .f32⟩
  | .local _ .vmem, ⟨24, _⟩ => ⟨S10000x128, .f32⟩
  | .local _ .vmem, ⟨25, _⟩ => ⟨S1x400x10000, .i8⟩
  | .local _ .vmem, ⟨26, _⟩ => ⟨S1x400x10000, .i8⟩
  | .local _ .vmem, ⟨27, _⟩ => ⟨S10000x128, .i8⟩
  | .local _ .vmem, ⟨28, _⟩ => ⟨S400x128, .f32⟩
  | .local _ .vmem, ⟨29, _⟩ => ⟨S400x128, .f32⟩
  | .local _ .vmem, ⟨30, _⟩ => ⟨S400x128, .f32⟩
  | .local _ .vmem, ⟨31, _⟩ => ⟨S400x128, .f32⟩
  | .local _ .vmem, ⟨32, _⟩ => ⟨S8x128, .f32⟩
  | .local _ .vmem, ⟨33, _⟩ => ⟨S8x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S128x40, .f32⟩
  | .local _ .vmem, ⟨38, _⟩ => ⟨S1x40, .f32⟩
  | .local _ .vmem, ⟨39, _⟩ => ⟨S400x40, .f32⟩
  | .local _ .vmem, ⟨40, _⟩ => ⟨S400x40, .f32⟩
  | .local _ .vmem, ⟨41, _⟩ => ⟨S400x128, .f32⟩
  | .local _ .vmem, ⟨42, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53_0 : Ref sig .tc := ⟨.hbm, 75, rfl⟩
abbrev main_v53_1 : Ref sig .tc := ⟨.hbm, 76, rfl⟩
abbrev main_v53_2 : Ref sig .tc := ⟨.hbm, 77, rfl⟩
abbrev main_v53_3 : Ref sig .tc := ⟨.hbm, 78, rfl⟩
abbrev main_v53_4 : Ref sig .tc := ⟨.hbm, 79, rfl⟩
abbrev main_v53_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57_0 : Ref sig .tc := ⟨.hbm, 84, rfl⟩
abbrev main_v57_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg18_0 : Ref sig .tc := ⟨.vmem, 22, rfl⟩
abbrev cc0_scratch0 : Ref sig .tc := ⟨.vmem, 23, rfl⟩
abbrev cc0_scratch1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem18_0 : DmaSem sig := 22
abbrev cc1_sem0_0 : DmaSem sig := 23
abbrev cc1_sem0_1 : DmaSem sig := 24
abbrev cc1_sem1_0 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem11_0 : DmaSem sig := 37
abbrev cc1_sem11_1 : DmaSem sig := 38
abbrev cc1_sem12_0 : DmaSem sig := 39
abbrev cc1_sem12_1 : DmaSem sig := 40

abbrev nD : Nat := 1
abbrev τ : Topo := Topo.v7x

variable {F : FTy → Type} [FloatOps F]

abbrev grid0 : Pipeline.Grid := ⟨1, ![27], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c25_i32 : BitVec 32 := 25#32
  let v4 : BitVec 1 := Scalar.cmpi .sle arg0 c25_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_3 : BitVec 32 := 1#32
  let v11 : BitVec 32 := Scalar.subi arg0 c1_i32_3
  let c400_i32 : BitVec 32 := 400#32
  let v24 : BitVec 32 := Scalar.muli v11 c400_i32
  let v25 : Index := Scalar.indexCast v24
  let c0_12 : Index := 0#32
  ![v25.toNat, 0]
def k0_cond3 (i : grid0.Coords) : BitVec 1 :=
  let arg0 : BitVec 32 := BitVec.ofNat 32 (i 0).val
  let c26_i32 : BitVec 32 := 26#32
  let v8 : BitVec 1 := Scalar.cmpi .eq arg0 c26_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c24_i32 : BitVec 32 := 24#32
  let v1 : BitVec 32 := Scalar.maxsi c0_i32 v0
  let v2 : BitVec 32 := Scalar.minsi c24_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c24_i32 : BitVec 32 := 24#32
  let v1 : BitVec 32 := Scalar.maxsi c0_i32 v0
  let v2 : BitVec 32 := Scalar.minsi c24_i32 v1
  let c0_i32_0 : BitVec 32 := 0#32
  let c0_i32_1 : BitVec 32 := 0#32
  let c0_i32_2 : BitVec 32 := 0#32
  ![v2.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c24_i32 : BitVec 32 := 24#32
  let v1 : BitVec 32 := Scalar.maxsi c0_i32 v0
  let v2 : BitVec 32 := Scalar.minsi c24_i32 v1
  let c0_i32_0 : BitVec 32 := 0#32
  let c0_i32_1 : BitVec 32 := 0#32
  ![v2.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c24_i32 : BitVec 32 := 24#32
  let v1 : BitVec 32 := Scalar.maxsi c0_i32 v0
  let v2 : BitVec 32 := Scalar.minsi c24_i32 v1
  let c0_i32_0 : BitVec 32 := 0#32
  let c0_i32_1 : BitVec 32 := 0#32
  ![v2.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x400x10000 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S10000x128 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S400x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S400x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x400x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x40 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x40 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S400x40 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S400x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== KernelIdeal.lean ====
variable {F : FTy → Type} [FloatOps F] [Named F]
def κ : String → Option EReal := fun
  | "step" => some ((1 / 32258 : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x256x128 : Shape := ⟨3, ![2, 256, 128]⟩
abbrev S2x128 : Shape := ⟨2, ![2, 128]⟩
abbrev S128x40 : Shape := ⟨2, ![128, 40]⟩
abbrev S40 : Shape := ⟨1, ![40]⟩
abbrev S1x128 : Shape := ⟨2, ![1, 128]⟩
abbrev S_ : Shape := ⟨0, ![]⟩
abbrev S1x256x128 : Shape := ⟨3, ![1, 256, 128]⟩
abbrev S256x128 : Shape := ⟨2, ![256, 128]⟩
abbrev S10000x256 : Shape := ⟨2, ![10000, 256]⟩
abbrev S10000 : Shape := ⟨1, ![10000]⟩
abbrev S10000x1 : Shape := ⟨2, ![10000, 1]⟩
abbrev S10000x40 : Shape := ⟨2, ![10000, 40]⟩
abbrev S1x40 : Shape := ⟨2, ![1, 40]⟩

abbrev nBuf : Space → Nat
  | .hbm => 248
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S2x256x128, .f32⟩
  | 5 => ⟨S2x256x128, .f32⟩
  | 6 => ⟨S2x128, .f32⟩
  | 7 => ⟨S128, .f32⟩
  | 8 => ⟨S128, .f32⟩
  | 9 => ⟨S128, .f32⟩
  | 10 => ⟨S128, .f32⟩
  | 11 => ⟨S128x40, .f32⟩
  | 12 => ⟨S40, .f32⟩
  | 13 => ⟨S10000x128, .f32⟩
  | 14 => ⟨S1x128, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S10000x128, .f32⟩
  | 21 => ⟨S1x256x128, .f32⟩
  | 22 => ⟨S256x128, .f32⟩
  | 23 => ⟨S10000x256, .f32⟩
  | 24 => ⟨S10000x128, .f32⟩
  | 25 => ⟨S_, .f32⟩
  | 26 => ⟨S10000x128, .f32⟩
  | 27 => ⟨S10000x128, .f32⟩
  | 28 => ⟨S_, .f32⟩
  | 29 => ⟨S10000x128, .f32⟩
  | 30 => ⟨S10000x128, .f32⟩
  | 31 => ⟨S10000x128, .f32⟩
  | 32 => ⟨S_, .f32⟩
  | 33 => ⟨S10000x128, .f32⟩
  | 34 => ⟨S10000x128, .f32⟩
  | 35 => ⟨S10000x128, .f32⟩
  | 36 => ⟨S_, .f32⟩
  | 37 => ⟨S10000x128, .f32⟩
  | 38 => ⟨S10000x128, .f32⟩
  | 39 => ⟨S_, .f32⟩
  | 40 => ⟨S10000x10000, .f32⟩
  | 41 => ⟨S10000x10000, .f32⟩
  | 42 => ⟨S_, .f32⟩
  | 43 => ⟨S10000x10000, .f32⟩
  | 44 => ⟨S10000x10000, .f32⟩
  | 45 => ⟨S10000x10000, .f32⟩
  | 46 => ⟨S_, .f32⟩
  | 47 => ⟨S_, .f32⟩
  | 48 => ⟨S_, .f32⟩
  | 49 => ⟨S10000x10000, .f32⟩
  | 50 => ⟨S10000x10000, .f32⟩
  | 51 => ⟨S_, .f32⟩
  | 52 => ⟨S10000x10000, .f32⟩
  | 53 => ⟨S10000x10000, .f32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S10000x128, .f32⟩
  | 64 => ⟨S10000x128, .f32⟩
  | 65 => ⟨S10000x128, .f32⟩
  | 66 => ⟨S_, .f32⟩
  | 67 => ⟨S_, .f32⟩
  | 68 => ⟨S_, .f32⟩
  | 69 => ⟨S10000x128, .f32⟩
  | 70 => ⟨S10000x128, .f32⟩
  | 71 => ⟨S_, .f32⟩
  | 72 => ⟨S10000x128, .f32⟩
  | 73 => ⟨S10000x128, .f32⟩
  | 74 => ⟨S_, .f32⟩
  | 75 => ⟨S1x128, .f32⟩
  | 76 => ⟨S1x128, .f32⟩
  | 77 => ⟨S_, .f32⟩
  | 78 => ⟨S10000x10000, .f32⟩
  | 79 => ⟨S10000x10000, .f32⟩
  | 80 => ⟨S10000x128, .f32⟩
  | 81 => ⟨S10000x128, .f32⟩
  | 82 => ⟨S10000x128, .f32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S10000x128, .f32⟩
  | 90 => ⟨S10000x128, .f32⟩
  | 91 => ⟨S1x256x128, .f32⟩
  | 92 => ⟨S256x128, .f32⟩
  | 93 => ⟨S10000x256, .f32⟩
  | 94 => ⟨S10000x128, .f32⟩
  | 95 => ⟨S_, .f32⟩
  | 96 => ⟨S10000x128, .f32⟩
  | 97 => ⟨S10000x128, .f32⟩
  | 98 => ⟨S_, .f32⟩
  | 99 => ⟨S10000x128, .f32⟩
  | 100 => ⟨S10000x128, .f32⟩
  | 101 => ⟨S10000x128, .f32⟩
  | 102 => ⟨S_, .f32⟩
  | 103 => ⟨S10000x128, .f32⟩
  | 104 => ⟨S10000x128, .f32⟩
  | 105 => ⟨S10000x128, .f32⟩
  | 106 => ⟨S10000x128, .f32⟩
  | 107 => ⟨S_, .f32⟩
  | 108 => ⟨S10000x128, .f32⟩
  | 109 => ⟨S10000x128, .f32⟩
  | 110 => ⟨S10000x128, .f32⟩
  | 111 => ⟨S10000x256, .f32⟩
  | 112 => ⟨S1x256x128, .f32⟩
  | 113 => ⟨S256x128, .f32⟩
  | 114 => ⟨S10000x128, .f32⟩
  | 115 => ⟨S1x128, .f32⟩
  | 116 => ⟨S128, .f32⟩
  | 117 => ⟨S1x128, .f32⟩
  | 118 => ⟨S10000x128, .f32⟩
  | 119 => ⟨S10000x128, .f32⟩
  | 120 => ⟨S_, .f32⟩
  | 121 => ⟨S10000x128, .f32⟩
  | 122 => ⟨S10000x128, .f32⟩
  | 123 => ⟨S10000x128, .f32⟩
  | 124 => ⟨S10000x256, .f32⟩
  | 125 => ⟨S1x256x128, .f32⟩
  | 126 => ⟨S256x128, .f32⟩
  | 127 => ⟨S10000x128, .f32⟩
  | _ => ⟨S10000x128, .f32⟩

abbrev hbmTy0_1 (i : Nat) : BufTy := match i % 128 with
  | 0 => ⟨S1x128, .f32⟩
  | 1 => ⟨S128, .f32⟩
  | 2 => ⟨S1x128, .f32⟩
  | 3 => ⟨S10000x128, .f32⟩
  | 4 => ⟨S10000x128, .f32⟩
  | 5 => ⟨S_, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S10000x128, .f32⟩
  | 12 => ⟨S_, .f32⟩
  | 13 => ⟨S10000, .f32⟩
  | 14 => ⟨S10000x1, .f32⟩
  | 15 => ⟨S_, .f32⟩
  | 16 => ⟨S10000x1, .f32⟩
  | 17 => ⟨S10000x1, .f32⟩
  | 18 => ⟨S_, .i32⟩
  | 19 => ⟨S_, .f32⟩
  | 20 => ⟨S10000, .f32⟩
  | 21 => ⟨S10000x1, .f32⟩
  | 22 => ⟨S_, .f32⟩
  | 23 => ⟨S10000x1, .f32⟩
  | 24 => ⟨S10000x1, .f32⟩
  | 25 => ⟨S10000x128, .f32⟩
  | 26 => ⟨S10000x128, .f32⟩
  | 27 => ⟨S10000x128, .f32⟩
  | 28 => ⟨S_, .f32⟩
  | 29 => ⟨S_, .f32⟩
  | 30 => ⟨S_, .f32⟩
  | 31 => ⟨S_, .f32⟩
  | 32 => ⟨S10000, .f32⟩
  | 33 => ⟨S10000x1, .f32⟩
  | 34 => ⟨S10000x1, .f32⟩
  | 35 => ⟨S10000x1, .f32⟩
  | 36 => ⟨S_, .f32⟩
  | 37 => ⟨S_, .i1⟩
  | 38 => ⟨S_, .f32⟩
  | 39 => ⟨S_, .f32⟩
  | 40 => ⟨S10000x1, .f32⟩
  | 41 => ⟨S10000x1, .f32⟩
  | 42 => ⟨S10000x128, .f32⟩
  | 43 => ⟨S10000x128, .f32⟩
  | 44 => ⟨S1x128, .f32⟩
  | 45 => ⟨S10000x128, .f32⟩
  | 46 => ⟨S10000x128, .f32⟩
  | 47 => ⟨S_, .f32⟩
  | 48 => ⟨S10000x1, .f32⟩
  | 49 => ⟨S10000x1, .f32⟩
  | 50 => ⟨S10000x1, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S_, .f32⟩
  | 57 => ⟨S10000, .f32⟩
  | 58 => ⟨S10000x1, .f32⟩
  | 59 => ⟨S_, .f32⟩
  | 60 => ⟨S10000x1, .f32⟩
  | 61 => ⟨S10000x1, .f32⟩
  | 62 => ⟨S_, .i32⟩
  | 63 => ⟨S_, .f32⟩
  | 64 => ⟨S10000, .f32⟩
  | 65 => ⟨S10000x1, .f32⟩
  | 66 => ⟨S_, .f32⟩
  | 67 => ⟨S10000x1, .f32⟩
  | 68 => ⟨S10000x1, .f32⟩
  | 69 => ⟨S10000x128, .f32⟩
  | 70 => ⟨S10000x128, .f32⟩
  | 71 => ⟨S10000x128, .f32⟩
  | 72 => ⟨S_, .f32⟩
  | 73 => ⟨S_, .f32⟩
  | 74 => ⟨S_, .f32⟩
  | 75 => ⟨S_, .f32⟩
  | 76 => ⟨S10000, .f32⟩
  | 77 => ⟨S10000x1, .f32⟩
  | 78 => ⟨S10000x1, .f32⟩
  | 79 => ⟨S10000x1, .f32⟩
  | 80 => ⟨S_, .f32⟩
  | 81 => ⟨S_, .i1⟩
  | 82 => ⟨S_, .f32⟩
  | 83 => ⟨S_, .f32⟩
  | 84 => ⟨S10000x1, .f32⟩
  | 85 => ⟨S10000x1, .f32⟩
  | 86 => ⟨S10000x128, .f32⟩
  | 87 => ⟨S10000x128, .f32⟩
  | 88 => ⟨S1x128, .f32⟩
  | 89 => ⟨S10000x128, .f32⟩
  | 90 => ⟨S10000x128, .f32⟩
  | 91 => ⟨S_, .f32⟩
  | 92 => ⟨S10000x1, .f32⟩
  | 93 => ⟨S10000x1, .f32⟩
  | 94 => ⟨S10000x1, .f32⟩
  | 95 => ⟨S10000x128, .f32⟩
  | 96 => ⟨S10000x128, .f32⟩
  | 97 => ⟨S1x128, .f32⟩
  | 98 => ⟨S10000x128, .f32⟩
  | 99 => ⟨S10000x128, .f32⟩
  | 100 => ⟨S10000x128, .f32⟩
  | 101 => ⟨S10000x40, .f32⟩
  | 102 => ⟨S1x40, .f32⟩
  | 103 => ⟨S10000x40, .f32⟩
  | 104 => ⟨S10000x40, .f32⟩
  | 105 => ⟨S_, .f32⟩
  | 106 => ⟨S10000, .f32⟩
  | 107 => ⟨S_, .f32⟩
  | 108 => ⟨S10000, .f32⟩
  | 109 => ⟨S10000, .f32⟩
  | 110 => ⟨S10000x1, .f32⟩
  | 111 => ⟨S10000x40, .f32⟩
  | 112 => ⟨S10000x40, .f32⟩
  | 113 => ⟨S10000x40, .f32⟩
  | 114 => ⟨S_, .f32⟩
  | 115 => ⟨S10000, .f32⟩
  | 116 => ⟨S10000x1, .f32⟩
  | 117 => ⟨S10000x1, .f32⟩
  | 118 => ⟨S10000x40, .f32⟩
  | 119 => ⟨S10000x40, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_cst : Ref sig .tc := ⟨.hbm, 36, rfl⟩
abbrev main_call1_v0 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_cst_5 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v24 : Ref sig .tc := ⟨.hbm, 53, rfl⟩
abbrev main_cst_6 : Ref sig .tc := ⟨.hbm, 54, rfl⟩
abbrev main_v25 : Ref sig .tc := ⟨.hbm, 55, rfl⟩
abbrev main_v26 : Ref sig .tc := ⟨.hbm, 56, rfl⟩
abbrev main_cst_7 : Ref sig .tc := ⟨.hbm, 57, rfl⟩
abbrev main_v27 : Ref sig .tc := ⟨.hbm, 58, rfl⟩
abbrev main_v28 : Ref sig .tc := ⟨.hbm, 59, rfl⟩
abbrev main_cst_8 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_9 : Ref sig .tc := ⟨.hbm, 66, rfl⟩
abbrev main_cst_10 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v34 : Ref sig .tc := ⟨.hbm, 73, rfl⟩
abbrev main_cst_11 : Ref sig .tc := ⟨.hbm, 74, rfl⟩
abbrev main_v35 : Ref sig .tc := ⟨.hbm, 75, rfl⟩
abbrev main_v36 : Ref sig .tc := ⟨.hbm, 76, rfl⟩
abbrev main_cst_12 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_13 : Ref sig .tc := ⟨.hbm, 83, rfl⟩
abbrev main_v42 : Ref sig .tc := ⟨.hbm, 84, rfl⟩
abbrev main_v43 : Ref sig .tc := ⟨.hbm, 85, rfl⟩
abbrev main_cst_14 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_15 : Ref sig .tc := ⟨.hbm, 95, rfl⟩
abbrev main_v52 : Ref sig .tc := ⟨.hbm, 96, rfl⟩
abbrev main_v53 : Ref sig .tc := ⟨.hbm, 97, rfl⟩
abbrev main_cst_16 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_17 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_call6_cst : Ref sig .tc := ⟨.hbm, 107, rfl⟩
abbrev main_call6_v0 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call7_cst : Ref sig .tc := ⟨.hbm, 120, rfl⟩
abbrev main_call7_v0 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_call8_cst : Ref sig .tc := ⟨.hbm, 133, rfl⟩
abbrev main_call8_v0 : Ref sig .tc := ⟨.hbm, 134, rfl⟩
abbrev main_v83 : Ref sig .tc := ⟨.hbm, 135, rfl⟩
abbrev main_cst_18 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_19 : Ref sig .tc := ⟨.hbm, 140, rfl⟩
abbrev main_v87 : Ref sig .tc := ⟨.hbm, 141, rfl⟩
abbrev main_v88 : Ref sig .tc := ⟨.hbm, 142, rfl⟩
abbrev main_cst_20 : Ref sig .tc := ⟨.hbm, 143, rfl⟩
abbrev main_v89 : Ref sig .tc := ⟨.hbm, 144, rfl⟩
abbrev main_v90 : Ref sig .tc := ⟨.hbm, 145, rfl⟩
abbrev main_c : Ref sig .tc := ⟨.hbm, 146, rfl⟩
abbrev main_call9_cst : Ref sig .tc := ⟨.hbm, 147, rfl⟩
abbrev main_call9_v0 : Ref sig .tc := ⟨.hbm, 148, rfl⟩
abbrev main_call9_v1 : Ref sig .tc := ⟨.hbm, 149, rfl⟩
abbrev main_call9_cst_0 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_call9_v5 : Ref sig .tc := ⟨.hbm, 154, rfl⟩
abbrev main_call9_v6 : Ref sig .tc := ⟨.hbm, 155, rfl⟩
abbrev main_call9_v7 : Ref sig .tc := ⟨.hbm, 156, rfl⟩
abbrev main_call9_cst_1 : Ref sig .tc := ⟨.hbm, 157, rfl⟩
abbrev main_call9_v8 : Ref sig .tc := ⟨.hbm, 158, rfl⟩
abbrev main_call9_cst_2 : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_v12 : Ref sig .tc := ⟨.hbm, 163, rfl⟩
abbrev main_call9_cst_3 : Ref sig .tc := ⟨.hbm, 164, rfl⟩
abbrev main_call9_v13 : Ref sig .tc := ⟨.hbm, 165, rfl⟩
abbrev main_call9_cst_4 : Ref sig .tc := ⟨.hbm, 166, rfl⟩
abbrev main_call9_call0_v0 : Ref sig .tc := ⟨.hbm, 167, rfl⟩
abbrev main_call9_call0_v1 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_cst_21 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_cst_22 : Ref sig .tc := ⟨.hbm, 184, rfl⟩
abbrev main_v105 : Ref sig .tc := ⟨.hbm, 185, rfl⟩
abbrev main_v106 : Ref sig .tc := ⟨.hbm, 186, rfl⟩
abbrev main_cst_23 : Ref sig .tc := ⟨.hbm, 187, rfl⟩
abbrev main_v107 : Ref sig .tc := ⟨.hbm, 188, rfl⟩
abbrev main_v108 : Ref sig .tc := ⟨.hbm, 189, rfl⟩
abbrev main_c_24 : Ref sig .tc := ⟨.hbm, 190, rfl⟩
abbrev main_call10_cst : Ref sig .tc := ⟨.hbm, 191, rfl⟩
abbrev main_call10_v0 : Ref sig .tc := ⟨.hbm, 192, rfl⟩
abbrev main_call10_v1 : Ref sig .tc := ⟨.hbm, 193, rfl⟩
abbrev main_call10_cst_0 : Ref sig .tc := ⟨.hbm, 194, rfl⟩
abbrev main_call10_v2 : Ref sig .tc := ⟨.hbm, 195, rfl⟩
abbrev main_call10_v3 : Ref sig .tc := ⟨.hbm, 196, rfl⟩
abbrev main_call10_v4 : Ref sig .tc := ⟨.hbm, 197, rfl⟩
abbrev main_call10_v5 : Ref sig .tc := ⟨.hbm, 198, rfl⟩
abbrev main_call10_v6 : Ref sig .tc := ⟨.hbm, 199, rfl⟩
abbrev main_call10_v7 : Ref sig .tc := ⟨.hbm, 200, rfl⟩
abbrev main_call10_cst_1 : Ref sig .tc := ⟨.hbm, 201, rfl⟩
abbrev main_call10_v8 : Ref sig .tc := ⟨.hbm, 202, rfl⟩
abbrev main_call10_cst_2 : Ref sig .tc := ⟨.hbm, 203, rfl⟩
abbrev main_call10_v9 : Ref sig .tc := ⟨.hbm, 204, rfl⟩
abbrev main_call10_v10 : Ref sig .tc := ⟨.hbm, 205, rfl⟩
abbrev main_call10_v11 : Ref sig .tc := ⟨.hbm, 206, rfl⟩
abbrev main_call10_v12 : Ref sig .tc := ⟨.hbm, 207, rfl⟩
abbrev main_call10_cst_3 : Ref sig .tc := ⟨.hbm, 208, rfl⟩
abbrev main_call10_v13 : Ref sig .tc := ⟨.hbm, 209, rfl⟩
abbrev main_call10_cst_4 : Ref sig .tc := ⟨.hbm, 210, rfl⟩
abbrev main_call10_call0_v0 : Ref sig .tc := ⟨.hbm, 211, rfl⟩
abbrev main_call10_call0_v1 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_cst_25 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_call11_cst : Ref sig .tc := ⟨.hbm, 233, rfl⟩
abbrev main_call11_v0 : Ref sig .tc := ⟨.hbm, 234, rfl⟩
abbrev main_call11_cst_0 : Ref sig .tc := ⟨.hbm, 235, rfl⟩
abbrev main_call11_v1 : Ref sig .tc := ⟨.hbm, 236, rfl⟩
abbrev main_call11_v2 : Ref sig .tc := ⟨.hbm, 237, rfl⟩
abbrev main_call11_v3 : Ref sig .tc := ⟨.hbm, 238, rfl⟩
abbrev main_call11_v4 : Ref sig .tc := ⟨.hbm, 239, rfl⟩
abbrev main_call11_v5 : Ref sig .tc := ⟨.hbm, 240, rfl⟩
abbrev main_call11_v6 : Ref sig .tc := ⟨.hbm, 241, rfl⟩
abbrev main_call11_cst_1 : Ref sig .tc := ⟨.hbm, 242, rfl⟩
abbrev main_call11_v7 : Ref sig .tc := ⟨.hbm, 243, rfl⟩
abbrev main_call11_v8 : Ref sig .tc := ⟨.hbm, 244, rfl⟩
abbrev main_call11_v9 : Ref sig .tc := ⟨.hbm, 245, rfl⟩
abbrev main_call11_v10 : Ref sig .tc := ⟨.hbm, 246, rfl⟩
abbrev main_v128 : Ref sig .tc := ⟨.hbm, 247, rfl⟩

abbrev nD : Nat := 1
abbrev τ : Topo := Topo.v7x

variable {F : FTy → Type} [FloatOps F]
-- ==== Proof.Body0.lean ====
module

public import proofs.«01_k».proof.Proof.Gen.KernelIdeal.Launch
public import proofs.«01_k».proof.Proof.Gen.KernelIdeal.Skeleton
public import proofs.«01_k».proof.Proof.Gen.KernelIdeal.Points

public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The first call's body, case by case

The grid has 27 points. At point 0 the body fills the first scratch buffer with the embedding `h0`; at points 1 to 25
it computes a block of 400 rows; at point 26 it quantises the whole second scratch buffer. Each case is stated over
the memrefs it touches alone, at contents, in continuation-passing form. -/

/-- The condition of the body's first branch: the grid coordinate is zero. -/
abbrev cond1 (i : grid0.Coords) : Prop :=
  Scalar.cmpi .ne (Scalar.extui (Scalar.cmpi .eq (BitVec.ofNat 32 (i 0).val) 0#32) : BitVec 32) 0#32 = 1#1

set_option maxHeartbeats 2000000 in
/-- At the first point: the first scratch buffer takes the embedding `relu (x · W + b)`, whatever it held. -/
theorem body0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x400x10000 .i8) (harg14 : arg14.IsWhole) (arg15 : Memref sig .tc .vmem S10000x128 .i8) (harg15 : arg15.IsWhole) (arg16 : Memref sig .tc .vmem S400x128 .f32) (harg16 : arg16.IsWhole) (arg17 : Memref sig .tc .vmem S400x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S10000x128 .f32) (harg20 : arg20.IsWhole) (arg21 : Memref sig .tc .vmem S10000x128 .f32) (harg21 : arg21.IsWhole)
    (h1 : cond1 i) (h2 : ¬ k0_cond2 i = 1#1) (h3 : ¬ k0_cond3 i = 1#1)
    (x1 : Vec F S10000x128 .f32) (x2 : Vec F S128x128 .f32) (x3 : Vec F S1x128 .f32) (E : Set ℕ) (K : PUnit → sProp 𝕄) :
    iprop(owns (c : Thread nD τ) arg2 fullShare x1 ∗ owns (c : Thread nD τ) arg3 fullShare x2 ∗ owns (c : Thread nD τ) arg4 fullShare x3 ∗ (∃ d, owns (c : Thread nD τ) arg20 fullShare d)
        ∗ (iprop(owns (c : Thread nD τ) arg2 fullShare x1 ∗ owns (c : Thread nD τ) arg3 fullShare x2 ∗ owns (c : Thread nD τ) arg4 fullShare x3 ∗ owns (c : Thread nD τ) arg20 fullShare (k0_pay1 x1 x2 x3)) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__layer1_body_eq_skeleton]; unfold cc0__layer1_body_skel
  unfold owns
  iintro ⟨⟨%f2, %hf2, H2⟩, ⟨%f3, %hf3, H3⟩, ⟨%f4, %hf4, H4⟩, ⟨%d20, %f20, -, H20⟩, Hk⟩
  obtain rfl := harg2.eq_unread hf2; obtain rfl := harg3.eq_unread hf3; obtain rfl := harg4.eq_unread hf4
  sl_exec (disch := first | sl_exact h1 | sl_exact h2 | sl_exact h3)
  sl_step
  have e2 : arg2.view.readAt (Elt F) (Rect.unit (s := S10000x128) ![0, 0] ![10000, 128] inb_S10000x128_S10000x128_0_0).toLoadRect (harg2.unread x1) = x1 :=
    (View.readAt_full _ _ _).trans (harg2.read_unread _)
  have e3 : arg3.view.readAt (Elt F) (Rect.unit (s := S128x128) ![0, 0] ![128, 128] inb_S128x128_S128x128_0_0).toLoadRect (harg3.unread x2) = x2 :=
    (View.readAt_full _ _ _).trans (harg3.read_unread _)
  have e4 : arg4.view.readAt (Elt F) (Rect.unit (s := S1x128) ![0, 0] ![1, 128] inb_S1x128_S1x128_0_0).toLoadRect (harg4.unread x3) = x3 :=
    (View.readAt_full _ _ _).trans (harg4.read_unread _)
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  iexists _; isplitr; swap; · iexact H20
  ipureintro; exact (View.read_writes_full _ _ _ _ _).trans (by simp only [e2, e3, e4])

set_option maxHeartbeats 2000000 in
/-- At a middle point: the block of the quantised adjacency, of the layer-2 residual and of the dynamic branch are stored, and the block of `h1` goes into its rows of the second scratch buffer. -/
theorem body0_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x400x10000 .i8) (harg14 : arg14.IsWhole) (arg15 : Memref sig .tc .vmem S10000x128 .i8) (harg15 : arg15.IsWhole) (arg16 : Memref sig .tc .vmem S400x128 .f32) (harg16 : arg16.IsWhole) (arg17 : Memref sig .tc .vmem S400x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S10000x128 .f32) (harg20 : arg20.IsWhole) (arg21 : Memref sig .tc .vmem S10000x128 .f32) (harg21 : arg21.IsWhole)
    (h1 : ¬ cond1 i) (h2 : k0_cond2 i = 1#1) (h3 : ¬ k0_cond3 i = 1#1)
    (x0 : Vec F S400x10000 .f32) (x4 : Vec F S128x128 .f32) (x5 : Vec F S128x128 .f32) (x6 : Vec F S128x128 .f32) (x7 : Vec F S128x128 .f32) (x8 : Vec F S1x128 .f32) (x9 : Vec F S128x128 .f32) (x10 : Vec F S1x128 .f32) (x11 : Vec F S1x128 .f32) (x12 : Vec F S1x128 .f32) (d20 : Vec F S10000x128 .f32) (d21 : Vec F S10000x128 .f32) (E : Set ℕ) (K : PUnit → sProp 𝕄) :
    iprop(owns (c : Thread nD τ) arg1 fullShare x0 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg16 fullShare d) ∗ (∃ d, owns (c : Thread nD τ) arg17 fullShare d) ∗ owns (c : Thread nD τ) arg20 fullShare d20 ∗ owns (c : Thread nD τ) arg21 fullShare d21
        ∗ (iprop(owns (c : Thread nD τ) arg1 fullShare x0 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (k0_pay7 x0) ∗ owns (c : Thread nD τ) arg16 fullShare (k0_pay11 (k0_pay8 x0 d20 (VecWindow.window d20 (k0_off1 i) S400x128.size (k0_off1_inb i h2)) x4 x5) (k0_pay10 (VecWindow.window d20 (k0_off1 i) S400x128.size (k0_off1_inb i h2)) x6)) ∗ owns (c : Thread nD τ) arg17 fullShare (k0_pay2 (k0_pay12 x11) (k0_pay13 x12) (k0_pay14 (VecWindow.window d20 (k0_off1 i) S400x128.size (k0_off1_inb i h2)) x7 x8 x9 x10) (k0_pay15 (VecWindow.window d20 (k0_off1 i) S400x128.size (k0_off1_inb i h2)) x7 x8 x9 x10) (Scalar.ofBits .f32 0x43000000#32)) ∗ owns (c : Thread nD τ) arg20 fullShare d20 ∗ owns (c : Thread nD τ) arg21 fullShare (VecWindow.put d21 (k0_off1 i) S400x128.size (k0_pay9 x0 d20 (VecWindow.window d20 (k0_off1 i) S400x128.size (k0_off1_inb i h2)) x4 x5))) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__layer1_body_eq_skeleton]; unfold cc0__layer1_body_skel
  simp only [k0_part1_eq_skeleton, k0_part2_eq_skeleton]
  unfold owns
  iintro ⟨⟨%f1, %hf1, H1⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d16, %f16, -, H16⟩, ⟨%d17, %f17, -, H17⟩, ⟨%f20, %hf20, H20⟩, ⟨%f21, %hf21, H21⟩, Hk⟩
  obtain rfl := harg1.eq_unread hf1; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg20.eq_unread hf20; obtain rfl := harg21.eq_unread hf21
  unfold k0_part1_skel k0_part2_skel
  sl_exec (disch := first | sl_exact h1 | sl_exact h2 | sl_exact h3)
  sl_step
  have e1 : arg1.view.readAt (Elt F) (Rect.unit (s := S400x10000) ![0, 0] ![400, 10000] inb_S400x10000_S400x10000_0_0).toLoadRect (harg1.unread x0) = x0 :=
    (View.readAt_full _ _ _).trans (harg1.read_unread _)
  have e5 : arg5.view.readAt (Elt F) (Rect.unit (s := S128x128) ![0, 0] ![128, 128] inb_S128x128_S128x128_0_0).toLoadRect (harg5.unread x4) = x4 :=
    (View.readAt_full _ _ _).trans (harg5.read_unread _)
  have e6 : arg6.view.readAt (Elt F) (Rect.unit (s := S128x128) ![0, 0] ![128, 128] inb_S128x128_S128x128_0_0).toLoadRect (harg6.unread x5) = x5 :=
    (View.readAt_full _ _ _).trans (harg6.read_unread _)
  have e7 : arg7.view.readAt (Elt F) (Rect.unit (s := S128x128) ![0, 0] ![128, 128] inb_S128x128_S128x128_0_0).toLoadRect (harg7.unread x6) = x6 :=
    (View.readAt_full _ _ _).trans (harg7.read_unread _)
  have e8 : arg8.view.readAt (Elt F) (Rect.unit (s := S128x128) ![0, 0] ![128, 128] inb_S128x128_S128x128_0_0).toLoadRect (harg8.unread x7) = x7 :=
    (View.readAt_full _ _ _).trans (harg8.read_unread _)
  have e9 : arg9.view.readAt (Elt F) (Rect.unit (s := S1x128) ![0, 0] ![1, 128] inb_S1x128_S1x128_0_0).toLoadRect (harg9.unread x8) = x8 :=
    (View.readAt_full _ _ _).trans (harg9.read_unread _)
  have e10 : arg10.view.readAt (Elt F) (Rect.unit (s := S128x128) ![0, 0] ![128, 128] inb_S128x128_S128x128_0_0).toLoadRect (harg10.unread x9) = x9 :=
    (View.readAt_full _ _ _).trans (harg10.read_unread _)
  have e11 : arg11.view.readAt (Elt F) (Rect.unit (s := S1x128) ![0, 0] ![1, 128] inb_S1x128_S1x128_0_0).toLoadRect (harg11.unread x10) = x10 :=
    (View.readAt_full _ _ _).trans (harg11.read_unread _)
  have e12 : arg12.view.readAt (Elt F) (Rect.unit (s := S1x128) ![0, 0] ![1, 128] inb_S1x128_S1x128_0_0).toLoadRect (harg12.unread x11) = x11 :=
    (View.readAt_full _ _ _).trans (harg12.read_unread _)
  have e13 : arg13.view.readAt (Elt F) (Rect.unit (s := S1x128) ![0, 0] ![1, 128] inb_S1x128_S1x128_0_0).toLoadRect (harg13.unread x12) = x12 :=
    (View.readAt_full _ _ _).trans (harg13.read_unread _)
  have e20 : arg20.view.readAt (Elt F) (Rect.unit (s := S10000x128) ![0, 0] ![10000, 128] inb_S10000x128_S10000x128_0_0).toLoadRect (harg20.unread d20) = d20 :=
    (View.readAt_full _ _ _).trans (harg20.read_unread _)
  have ew : arg20.view.readAt (Elt F) (Rect.unit (s := S10000x128) (k0_off1 i) ![400, 128] (k0_off1_inb i h2)).toLoadRect (harg20.unread d20) = VecWindow.window d20 (k0_off1 i) S400x128.size (k0_off1_inb i h2) :=
    (View.readAt_unit _ _ _ rfl (k0_off1_inb i h2)).trans (by rw [harg20.read_unread])
  iapply Hk
  isplitl [H1]
  · iexists _; isplitr; swap; · iexact H1
    ipureintro; exact harg1.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact (View.read_writes_full _ _ _ _ _).trans (by simp only [e1, e5, e6, e7, e8, e9, e10, e11, e12, e13, e20, ew])
  isplitl [H16]
  · iexists _; isplitr; swap; · iexact H16
    ipureintro; exact (View.read_writes_full _ _ _ _ _).trans (by simp only [e1, e5, e6, e7, e8, e9, e10, e11, e12, e13, e20, ew])
  isplitl [H17]
  · iexists _; isplitr; swap; · iexact H17
    ipureintro; exact (View.read_writes_full _ _ _ _ _).trans (by simp only [e1, e5, e6, e7, e8, e9, e10, e11, e12, e13, e20, ew]; rfl)
  isplitl [H20]
  · iexists _; isplitr; swap; · iexact H20
    ipureintro; exact harg20.read_unread _
  iexists _; isplitr; swap; · iexact H21
  ipureintro; exact (View.read_writes_cons_put _ _ _ _ _ rfl).trans (by simp only [View.writes_nil, Memref.IsWhole.read_unread, e1, e5, e6, e20, ew])

set_option maxHeartbeats 2000000 in
/-- At the last point: the quantised `h1`, its column steps and its column sums are stored. -/
theorem body0_C (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x400x10000 .i8) (harg14 : arg14.IsWhole) (arg15 : Memref sig .tc .vmem S10000x128 .i8) (harg15 : arg15.IsWhole) (arg16 : Memref sig .tc .vmem S400x128 .f32) (harg16 : arg16.IsWhole) (arg17 : Memref sig .tc .vmem S400x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S10000x128 .f32) (harg20 : arg20.IsWhole) (arg21 : Memref sig .tc .vmem S10000x128 .f32) (harg21 : arg21.IsWhole)
    (h1 : ¬ cond1 i) (h2 : ¬ k0_cond2 i = 1#1) (h3 : k0_cond3 i = 1#1)
    (d21 : Vec F S10000x128 .f32) (E : Set ℕ) (K : PUnit → sProp 𝕄) :
    iprop((∃ d, owns (c : Thread nD τ) arg15 fullShare d) ∗ (∃ d, owns (c : Thread nD τ) arg18 fullShare d) ∗ (∃ d, owns (c : Thread nD τ) arg19 fullShare d) ∗ owns (c : Thread nD τ) arg21 fullShare d21
        ∗ (iprop(owns (c : Thread nD τ) arg15 fullShare (k0_pay4 d21) ∗ owns (c : Thread nD τ) arg18 fullShare (k0_pay5 d21) ∗ owns (c : Thread nD τ) arg19 fullShare (k0_pay6 d21) ∗ owns (c : Thread nD τ) arg21 fullShare d21) -∗ K ⟨⟩))
      ⊢ wp frame (wpE (defs₀ (F := F)) Variants.none c none) E (cc0__layer1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__layer1_body_eq_skeleton]; unfold cc0__layer1_body_skel
  unfold owns
  iintro ⟨⟨%d15, %f15, -, H15⟩, ⟨%d18, %f18, -, H18⟩, ⟨%d19, %f19, -, H19⟩, ⟨%f21, %hf21, H21⟩, Hk⟩
  obtain rfl := harg21.eq_unread hf21
  sl_exec (disch := first | sl_exact h1 | sl_exact h2 | sl_exact h3)
  sl_step
  have e21 : arg21.view.readAt (Elt F) (Rect.unit (s := S10000x128) ![0, 0] ![10000, 128] inb_S10000x128_S10000x128_0_0).toLoadRect (harg21.unread d21) = d21 :=
    (View.readAt_full _ _ _).trans (harg21.read_unread _)
  iapply Hk
  isplitl [H15]
  · iexists _; isplitr; swap; · iexact H15
    ipureintro; exact (View.read_writes_full _ _ _ _ _).trans (by simp only [e21])
  isplitl [H18]
  · iexists _; isplitr; swap; · iexact H18
    ipureintro; exact (View.read_writes_full _ _ _ _ _).trans (by simp only [e21])
  isplitl [H19]
  · iexists _; isplitr; swap; · iexact H19
    ipureintro; exact (View.read_writes_full _ _ _ _ _).trans (by simp only [e21])
  iexists _; isplitr; swap; · iexact H21
  ipureintro; exact harg21.read_unread _

end Cert.KernelIdeal.Hand
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Body0
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

/-! # The first call at entry contents `V`: what every staging buffer and the two scratch buffers hold -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! ## The grid: which case a point is, and where the outputs are idle or written back -/

theorem cond1_iff : ∀ t : Fin cfg0.N, cond1 (grid0.coords t) ↔ t.val = 0 :=
  (by decide +kernel : ∀ t : Fin grid0.N, cond1 (grid0.coords t) ↔ t.val = 0)
theorem cond2_iff : ∀ t : Fin cfg0.N, k0_cond2 (grid0.coords t) = 1#1 ↔ (1 ≤ t.val ∧ t.val ≤ 25) :=
  (by decide +kernel : ∀ t : Fin grid0.N, k0_cond2 (grid0.coords t) = 1#1 ↔ (1 ≤ t.val ∧ t.val ≤ 25))
theorem cond3_iff : ∀ t : Fin cfg0.N, k0_cond3 (grid0.coords t) = 1#1 ↔ t.val = 26 :=
  (by decide +kernel : ∀ t : Fin grid0.N, k0_cond3 (grid0.coords t) = 1#1 ↔ t.val = 26)
/-- The rows a middle point works on: from `400 · (t - 1)` on. -/
theorem off_eq : ∀ t : Fin cfg0.N, 1 ≤ t.val → t.val ≤ 25 → k0_off1 (grid0.coords t) = ![400 * (t.val - 1), 0] :=
  (by decide +kernel : ∀ t : Fin grid0.N, 1 ≤ t.val → t.val ≤ 25 → k0_off1 (grid0.coords t) = ![400 * (t.val - 1), 0])
theorem idle0_13 : ∀ t : Fin cfg0.N, (t.val = 0 ∨ t.val = 26) → cfg0.idle 13 (grid0.coords t) = true := by decide +kernel
theorem live0_13 : ∀ t : Fin cfg0.N, 1 ≤ t.val → t.val ≤ 25 → cfg0.idle 13 (grid0.coords t) = false := by decide +kernel
theorem noflush0_13 : ∀ t : Fin cfg0.N, (t.val = 0 ∨ t.val = 25) → (cfg0.win 13).flush t = false := by decide +kernel
theorem doflush0_13 : ∀ t : Fin cfg0.N, t.val = 26 → (cfg0.win 13).flush t = true := by decide +kernel
theorem idle0_15 : ∀ t : Fin cfg0.N, (t.val = 0 ∨ t.val = 26) → cfg0.idle 15 (grid0.coords t) = true := by decide +kernel
theorem live0_15 : ∀ t : Fin cfg0.N, 1 ≤ t.val → t.val ≤ 25 → cfg0.idle 15 (grid0.coords t) = false := by decide +kernel
theorem noflush0_15 : ∀ t : Fin cfg0.N, (t.val = 0 ∨ t.val = 25) → (cfg0.win 15).flush t = false := by decide +kernel
theorem doflush0_15 : ∀ t : Fin cfg0.N, t.val = 26 → (cfg0.win 15).flush t = true := by decide +kernel
theorem idle0_16 : ∀ t : Fin cfg0.N, (t.val = 0 ∨ t.val = 26) → cfg0.idle 16 (grid0.coords t) = true := by decide +kernel
theorem live0_16 : ∀ t : Fin cfg0.N, 1 ≤ t.val → t.val ≤ 25 → cfg0.idle 16 (grid0.coords t) = false := by decide +kernel
theorem noflush0_16 : ∀ t : Fin cfg0.N, (t.val = 0 ∨ t.val = 25) → (cfg0.win 16).flush t = false := by decide +kernel
theorem doflush0_16 : ∀ t : Fin cfg0.N, t.val = 26 → (cfg0.win 16).flush t = true := by decide +kernel
theorem idle0_14 : ∀ t : Fin cfg0.N, t.val ≤ 25 → cfg0.idle 14 (grid0.coords t) = true := by decide +kernel
theorem live0_14 : ∀ t : Fin cfg0.N, t.val = 26 → cfg0.idle 14 (grid0.coords t) = false := by decide +kernel
theorem noflush0_14 : ∀ t : Fin cfg0.N, t.val ≤ 25 → (cfg0.win 14).flush t = false := by decide +kernel
theorem idle0_17 : ∀ t : Fin cfg0.N, t.val ≤ 25 → cfg0.idle 17 (grid0.coords t) = true := by decide +kernel
theorem live0_17 : ∀ t : Fin cfg0.N, t.val = 26 → cfg0.idle 17 (grid0.coords t) = false := by decide +kernel
theorem noflush0_17 : ∀ t : Fin cfg0.N, t.val ≤ 25 → (cfg0.win 17).flush t = false := by decide +kernel
theorem idle0_18 : ∀ t : Fin cfg0.N, t.val ≤ 25 → cfg0.idle 18 (grid0.coords t) = true := by decide +kernel
theorem live0_18 : ∀ t : Fin cfg0.N, t.val = 26 → cfg0.idle 18 (grid0.coords t) = false := by decide +kernel
theorem noflush0_18 : ∀ t : Fin cfg0.N, t.val ≤ 25 → (cfg0.win 18).flush t = false := by decide +kernel

/-! ## The values -/

/-- The middle point nearest to `n`. -/
def pt (n : ℕ) : Fin cfg0.N := ⟨max 1 (min n 25), by rw [show cfg0.N = 27 from N_0]; omega⟩
theorem pt_cond (n : ℕ) : k0_cond2 (grid0.coords (pt n)) = 1#1 := (cond2_iff (pt n)).2 (by unfold pt; dsimp only; omega)
theorem pt_self (t : Fin cfg0.N) (h1 : 1 ≤ t.val) (h2 : t.val ≤ 25) : pt t.val = t := Fin.ext (by unfold pt; dsimp only; omega)
/-- The first point. -/
def tz : Fin cfg0.N := ⟨0, by rw [show cfg0.N = 27 from N_0]; omega⟩

/-- The embedding, all rows: what the first point leaves in the first scratch buffer. -/
def H0 (c : Dev nD) : Vec F S10000x128 .f32 := k0_pay1 (iblk0 V c 1 tz) (iblk0 V c 2 tz) (iblk0 V c 3 tz)
/-- The rows of the embedding that middle point `t` works on. -/
def rows (c : Dev nD) (t : Fin cfg0.N) (h : k0_cond2 (grid0.coords t) = 1#1) : Vec F S400x128 .f32 :=
  VecWindow.window (H0 V c) (k0_off1 (grid0.coords t)) S400x128.size (k0_off1_inb (grid0.coords t) h)
/-- The block of quantised adjacency rows stored at point `t`. -/
def kblk (c : Dev nD) (t : Fin cfg0.N) : Vec F S1x400x10000 .i8 := k0_pay7 (iblk0 V c 0 t)
/-- The block of `h1` computed at middle point `t`. -/
def h1blk (c : Dev nD) (t : Fin cfg0.N) (h : k0_cond2 (grid0.coords t) = 1#1) : Vec F S400x128 .f32 :=
  k0_pay9 (iblk0 V c 0 t) (H0 V c) (rows V c t h) (iblk0 V c 4 t) (iblk0 V c 5 t)
/-- The block of the second layer's residual. -/
def preblk (c : Dev nD) (t : Fin cfg0.N) (h : k0_cond2 (grid0.coords t) = 1#1) : Vec F S400x128 .f32 :=
  k0_pay11 (k0_pay8 (iblk0 V c 0 t) (H0 V c) (rows V c t h) (iblk0 V c 4 t) (iblk0 V c 5 t)) (k0_pay10 (rows V c t h) (iblk0 V c 6 t))
/-- The block of the normalised dynamic branch. -/
def dyblk (c : Dev nD) (t : Fin cfg0.N) (h : k0_cond2 (grid0.coords t) = 1#1) : Vec F S400x128 .f32 :=
  k0_pay2 (k0_pay12 (iblk0 V c 11 t)) (k0_pay13 (iblk0 V c 12 t))
    (k0_pay14 (rows V c t h) (iblk0 V c 7 t) (iblk0 V c 8 t) (iblk0 V c 9 t) (iblk0 V c 10 t))
    (k0_pay15 (rows V c t h) (iblk0 V c 7 t) (iblk0 V c 8 t) (iblk0 V c 9 t) (iblk0 V c 10 t)) (Scalar.ofBits .f32 0x43000000#32)
/-- The index of row `i` and column `j`. -/
def ix2 {m n : ℕ} (i : Fin m) (j : Fin n) : (⟨2, ![m, n]⟩ : Shape).Idx := fun a => match a with | 0 => i | 1 => j
/-- A row's place within its block of 400. -/
def loc400 (y : S10000x128.Idx) : S400x128.Idx := ix2 ⟨(y 0).val % 400, Nat.mod_lt _ (by decide)⟩ (y 1)
/-- `h1`, all rows: what the second scratch buffer holds once the middle points have run. -/
def H1 (c : Dev nD) : Vec F S10000x128 .f32 := fun y => h1blk V c (pt ((y 0).val / 400 + 1)) (pt_cond _) (loc400 y)

/-- What the scratch buffers are known to hold before point `n`: the embedding once the first point has run, and the rows of `h1` of the
    middle points that have run. -/
def Known (c : Dev nD) (n : ℕ) (d0 d1 : Vec F S10000x128 .f32) : Prop :=
  (1 ≤ n → d0 = H0 V c) ∧ ∀ y : S10000x128.Idx, (y 0).val < 400 * (n - 1) → d1 y = H1 V c y

theorem known_step (c : Dev nD) (t : Fin cfg0.N) (h1 : 1 ≤ t.val) (h2 : t.val ≤ 25) (hc : k0_cond2 (grid0.coords t) = 1#1)
    (d1 : Vec F S10000x128 .f32) (h : Known V c t.val (H0 V c) d1) :
    Known V c (t.val + 1) (H0 V c) (VecWindow.put d1 (k0_off1 (grid0.coords t)) S400x128.size (h1blk V c t hc)) := by
  refine ⟨fun _ => rfl, fun y hy => ?_⟩
  have ho := off_eq t h1 h2
  have o0 : k0_off1 (grid0.coords t) 0 = 400 * (t.val - 1) := by rw [ho]; rfl
  have o1 : k0_off1 (grid0.coords t) 1 = 0 := by rw [ho]; rfl
  have y1 : (y 1).val < 128 := (y 1).isLt
  unfold VecWindow.put
  split
  · rename_i hin
    have a0 := hin 0
    rw [o0] at a0
    have a0' : 400 * (t.val - 1) ≤ (y 0).val ∧ (y 0).val < 400 * (t.val - 1) + 400 := a0
    have hp : pt ((y 0).val / 400 + 1) = t := Fin.ext (by unfold pt; dsimp only; omega)
    have hl : Rect.unitLocal (s := S10000x128) (off := k0_off1 (grid0.coords t)) (size := S400x128.size) y hin = loc400 y := by
      funext a
      refine Fin.ext ?_
      fin_cases a
      · show (y 0).val - k0_off1 (grid0.coords t) 0 = (y 0).val % 400
        rw [o0]; omega
      · show (y 1).val - k0_off1 (grid0.coords t) 1 = (y 1).val
        rw [o1]; omega
    show h1blk V c t hc _ = h1blk V c (pt ((y 0).val / 400 + 1)) (pt_cond _) (loc400 y)
    rw [hl]
    congr 1
    congr 1
    exact hp.symm
  · rename_i hin
    refine h.2 y ?_
    by_contra hlt
    refine hin fun a => ?_
    fin_cases a
    · show k0_off1 (grid0.coords t) 0 ≤ (y 0).val ∧ (y 0).val < k0_off1 (grid0.coords t) 0 + 400
      rw [o0]; omega
    · show k0_off1 (grid0.coords t) 1 ≤ (y 1).val ∧ (y 1).val < k0_off1 (grid0.coords t) 1 + 128
      rw [o1]; omega

theorem known_end (c : Dev nD) (n : ℕ) (hn : 26 ≤ n) (d0 d1 : Vec F S10000x128 .f32) (h : Known V c n d0 d1) : d1 = H1 V c :=
  funext fun y => h.2 y (by have : (y 0).val < 10000 := (y 0).isLt; omega)

/-- The scratch operands as memrefs. -/
abbrev scM0 : Memref sig .tc .vmem S10000x128 .f32 := Memref.whole cc0_scratch0
abbrev scM1 : Memref sig .tc .vmem S10000x128 .f32 := Memref.whole cc0_scratch1

/-- The scoped buffers the first call does not touch, each at some contents. -/
def Rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg12_1), ((c : Thread nD τ).loc cc1_stg12_1) ↦{fullShare} f))

/-- The invariant before point `n`: the scratch buffers at contents known so far, the rest of the scoped buffers, the generator register. -/
def Phi0 (c : Dev nD) (n : ℕ) : sProp 𝕄 :=
  iprop((∃ d0 d1, ⌜Known V c n d0 d1⌝ ∗ owns (c : Thread nD τ) scM0 fullShare d0 ∗ owns (c : Thread nD τ) scM1 fullShare d1) ∗ Rest0 c ∗ (∃ r, prngReg c r))

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ Rest0 c) ∗ (∃ r, prngReg c r)) := by
  unfold Pipeline.ΦA Rest0; rw [scopedRest0_eq]; simp only [owns_whole]; try rfl

theorem Phi0_start (c : Dev nD) : (Pipeline.ΦA spec0 c : sProp 𝕄) ⊢ Phi0 V c 0 := by
  rw [PhiA0_eq]; unfold Phi0
  iintro ⟨⟨⟨%d0, HS0⟩, ⟨%d1, HS1⟩, HR⟩, Hg⟩
  isplitl [HS0 HS1]
  · iexists d0, d1
    isplitr
    · ipureintro; exact ⟨fun h => absurd h (by omega), fun y hy => absurd hy (by omega)⟩
    isplitl [HS0]; · iexact HS0
    iexact HS1
  isplitl [HR]; · iexact HR
  iexact Hg

theorem Phi0_end (c : Dev nD) (n : ℕ) : Phi0 V c n ⊢ (Pipeline.ΦA spec0 c : sProp 𝕄) := by
  rw [PhiA0_eq]; unfold Phi0
  iintro ⟨⟨%d0, %d1, -, HS0, HS1⟩, HR, Hg⟩
  isplitl [HS0 HS1 HR]
  · isplitl [HS0]; · iexists d0; iexact HS0
    isplitl [HS1]; · iexists d1; iexact HS1
    iexact HR
  iexact Hg

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => kblk V c (pt t.val)
    | ⟨14, _⟩ => k0_pay4 (H1 V c)
    | ⟨15, _⟩ => preblk V c (pt t.val) (pt_cond _)
    | ⟨16, _⟩ => dyblk V c (pt t.val) (pt_cond _)
    | ⟨17, _⟩ => k0_pay5 (H1 V c)
    | ⟨18, _⟩ => k0_pay6 (H1 V c)
    | ⟨_ + 19, h⟩ => absurd h (Nat.not_lt.2 (Nat.le_add_left _ _))
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = kblk V c (pt t.val) := by dsimp only [dat0]
theorem after0_14 (c : Dev nD) (t : Fin cfg0.N) : (dat0 V c).after 14 t = k0_pay4 (H1 V c) := by dsimp only [dat0]
theorem after0_15 (c : Dev nD) (t : Fin cfg0.N) : (dat0 V c).after 15 t = preblk V c (pt t.val) (pt_cond _) := by dsimp only [dat0]
theorem after0_16 (c : Dev nD) (t : Fin cfg0.N) : (dat0 V c).after 16 t = dyblk V c (pt t.val) (pt_cond _) := by dsimp only [dat0]
theorem after0_17 (c : Dev nD) (t : Fin cfg0.N) : (dat0 V c).after 17 t = k0_pay5 (H1 V c) := by dsimp only [dat0]
theorem after0_18 (c : Dev nD) (t : Fin cfg0.N) : (dat0 V c).after 18 t = k0_pay6 (H1 V c) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-! At the last point the blocks of the three row-blocked outputs are still those of the point before: they are written back there unchanged. -/
theorem before0_13_end (c : Dev nD) (t : Fin cfg0.N) (ht : t.val = 26) (d) : (dat0 V c).before 13 t d = (dat0 V c).after 13 t := by
  rw [(dat0 V c).before_of_pos 13 t (by omega) ((cfg0.win 13).fetch_out rfl t), noflush0_13 ⟨t.val - 1, _⟩ (Or.inr (by dsimp only; omega)), if_neg Bool.false_ne_true]
  unfold Dat.left
  rw [live0_13 ⟨t.val - 1, _⟩ (by dsimp only; omega) (by dsimp only; omega)]
  refine (show (dat0 V c).kept 13 ⟨t.val - 1, _⟩ d = (dat0 V c).after 13 ⟨t.val - 1, _⟩ from rfl).trans ?_
  obtain ⟨n, hn⟩ := t
  obtain rfl : n = 26 := ht
  rw [after0_13, after0_13]; rfl
theorem before0_15_end (c : Dev nD) (t : Fin cfg0.N) (ht : t.val = 26) (d) : (dat0 V c).before 15 t d = (dat0 V c).after 15 t := by
  rw [(dat0 V c).before_of_pos 15 t (by omega) ((cfg0.win 15).fetch_out rfl t), noflush0_15 ⟨t.val - 1, _⟩ (Or.inr (by dsimp only; omega)), if_neg Bool.false_ne_true]
  unfold Dat.left
  rw [live0_15 ⟨t.val - 1, _⟩ (by dsimp only; omega) (by dsimp only; omega)]
  refine (show (dat0 V c).kept 15 ⟨t.val - 1, _⟩ d = (dat0 V c).after 15 ⟨t.val - 1, _⟩ from rfl).trans ?_
  obtain ⟨n, hn⟩ := t
  obtain rfl : n = 26 := ht
  rw [after0_15, after0_15]; rfl
theorem before0_16_end (c : Dev nD) (t : Fin cfg0.N) (ht : t.val = 26) (d) : (dat0 V c).before 16 t d = (dat0 V c).after 16 t := by
  rw [(dat0 V c).before_of_pos 16 t (by omega) ((cfg0.win 16).fetch_out rfl t), noflush0_16 ⟨t.val - 1, _⟩ (Or.inr (by dsimp only; omega)), if_neg Bool.false_ne_true]
  unfold Dat.left
  rw [live0_16 ⟨t.val - 1, _⟩ (by dsimp only; omega) (by dsimp only; omega)]
  refine (show (dat0 V c).kept 16 ⟨t.val - 1, _⟩ d = (dat0 V c).after 16 ⟨t.val - 1, _⟩ from rfl).trans ?_
  obtain ⟨n, hn⟩ := t
  obtain rfl : n = 26 := ht
  rw [after0_16, after0_16]; rfl

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t
    ∗ (dat0 V c).leavesExact 17 t
    ∗ (dat0 V c).leavesExact 18 t)

set_option maxHeartbeats 2000000 in
theorem sound0_A (c : Dev nD) (t : Fin cfg0.N) (ht : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = Phi0 V c (t.val + 1) from rfl, show (dat0 V c).Φ t.castSucc = Phi0 V c t.val from rfl,
    show (dat0 V c).owesAt () t.succ = (dat0 V c).owesAt () t.castSucc from rfl]
  unfold Phi0
  rw [show (dat0 V c).leavesExact 0 t = owns (c : Thread nD τ) (st0_0 t) fullShare (iblk0 V c 0 t) from by
    unfold Dat.leavesExact; rw [show cfg0.idle 0 (grid0.coords t) = false from rfl, after0_0]]
  rw [show (dat0 V c).leavesExact 1 t = owns (c : Thread nD τ) (st0_1 t) fullShare (iblk0 V c 1 t) from by
    unfold Dat.leavesExact; rw [show cfg0.idle 1 (grid0.coords t) = false from rfl, after0_1]]
  rw [show (dat0 V c).leavesExact 2 t = owns (c : Thread nD τ) (st0_2 t) fullShare (iblk0 V c 2 t) from by
    unfold Dat.leavesExact; rw [show cfg0.idle 2 (grid0.coords t) = false from rfl, after0_2]]
  rw [show (dat0 V c).leavesExact 3 t = owns (c : Thread nD τ) (st0_3 t) fullShare (iblk0 V c 3 t) from by
    unfold Dat.leavesExact; rw [show cfg0.idle 3 (grid0.coords t) = false from rfl, after0_3]]
  rw [show (dat0 V c).leavesExact 4 t = owns (c : Thread nD τ) (st0_4 t) fullShare (iblk0 V c 4 t) from by
    unfold Dat.leavesExact; rw [show cfg0.idle 4 (grid0.coords t) = false from rfl, after0_4]]
  rw [show (dat0 V c).leavesExact 5 t = owns (c : Thread nD τ) (st0_5 t) fullShare (iblk0 V c 5 t) from by
    unfold Dat.leavesExact; rw [show cfg0.idle 5 (grid0.coords t) = false from rfl, after0_5]]
  rw [show (dat0 V c).leavesExact 6 t = owns (c : Thread nD τ) (st0_6 t) fullShare (iblk0 V c 6 t) from by
    unfold Dat.leavesExact; rw [show cfg0.idle 6 (grid0.coords t) = false from rfl, after0_6]]
  rw [show (dat0 V c).leavesExact 7 t = owns (c : Thread nD τ) (st0_7 t) fullShare (iblk0 V c 7 t) from by
    unfold Dat.leavesExact; rw [show cfg0.idle 7 (grid0.coords t) = false from rfl, after0_7]]
  rw [show (dat0 V c).leavesExact 8 t = owns (c : Thread nD τ) (st0_8 t) fullShare (iblk0 V c 8 t) from by
    unfold Dat.leavesExact; rw [show cfg0.idle 8 (grid0.coords t) = false from rfl, after0_8]]
  rw [show (dat0 V c).leavesExact 9 t = owns (c : Thread nD τ) (st0_9 t) fullShare (iblk0 V c 9 t) from by
    unfold Dat.leavesExact; rw [show cfg0.idle 9 (grid0.coords t) = false from rfl, after0_9]]
  rw [show (dat0 V c).leavesExact 10 t = owns (c : Thread nD τ) (st0_10 t) fullShare (iblk0 V c 10 t) from by
    unfold Dat.leavesExact; rw [show cfg0.idle 10 (grid0.coords t) = false from rfl, after0_10]]
  rw [show (dat0 V c).leavesExact 11 t = owns (c : Thread nD τ) (st0_11 t) fullShare (iblk0 V c 11 t) from by
    unfold Dat.leavesExact; rw [show cfg0.idle 11 (grid0.coords t) = false from rfl, after0_11]]
  rw [show (dat0 V c).leavesExact 12 t = owns (c : Thread nD τ) (st0_12 t) fullShare (iblk0 V c 12 t) from by
    unfold Dat.leavesExact; rw [show cfg0.idle 12 (grid0.coords t) = false from rfl, after0_12]]
  rw [Dat.leavesExact_idle (dat0 V c) 13 t (idle0_13 t (Or.inl ht)) (noflush0_13 t (Or.inl ht))]
  rw [Dat.leavesExact_idle (dat0 V c) 15 t (idle0_15 t (Or.inl ht)) (noflush0_15 t (Or.inl ht))]
  rw [Dat.leavesExact_idle (dat0 V c) 16 t (idle0_16 t (Or.inl ht)) (noflush0_16 t (Or.inl ht))]
  rw [Dat.leavesExact_idle (dat0 V c) 14 t (idle0_14 t (by omega)) (noflush0_14 t (by omega))]
  rw [Dat.leavesExact_idle (dat0 V c) 17 t (idle0_17 t (by omega)) (noflush0_17 t (by omega))]
  rw [Dat.leavesExact_idle (dat0 V c) 18 t (idle0_18 t (by omega)) (noflush0_18 t (by omega))]
  iintro ⟨⟨⟨%d0, %d1, %hk, HS0, HS1⟩, HR, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩⟩
  iapply (body0_A c (grid0.coords t) _ _ _ _ _ _ _ _ _ _ _ _ _ _ _ _ _ _ _ _ _ _ _ _ _ _ _ _ _ _ _ _ _ _ _ _ _ _ _ _ _ _ ((cond1_iff t).2 ht) (fun h => by have := (cond2_iff t).1 h; omega) (fun h => by have := (cond3_iff t).1 h; omega) (iblk0 V c 1 t) (iblk0 V c 2 t) (iblk0 V c 3 t) Set.univ _)
  isplitl [H1]; · iexact H1
  isplitl [H2]; · iexact H2
  isplitl [H3]; · iexact H3
  isplitl [HS0]; · iexists _; iexact HS0
  iintro ⟨H1, H2, H3, HS0⟩
  isplitl [HS0 HS1 HR Hg]
  · isplitl [HS0 HS1]
    · iexists _, _
      isplitr
      swap
      · isplitl [HS0]; · iexact HS0
        iexact HS1
      ipureintro; exact ⟨fun _ => by rw [show t = tz from Fin.ext ht]; rfl, fun y hy => absurd hy (by omega)⟩
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option maxHeartbeats 2000000 in
theorem sound0_B (c : Dev nD) (t : Fin cfg0.N) (h1 : 1 ≤ t.val) (h2 : t.val ≤ 25) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = Phi0 V c (t.val + 1) from rfl, show (dat0 V c).Φ t.castSucc = Phi0 V c t.val from rfl,
    show (dat0 V c).owesAt () t.succ = (dat0 V c).owesAt () t.castSucc from rfl]
  unfold Phi0
  rw [show (dat0 V c).leavesExact 0 t = owns (c : Thread nD τ) (st0_0 t) fullShare (iblk0 V c 0 t) from by
    unfold Dat.leavesExact; rw [show cfg0.idle 0 (grid0.coords t) = false from rfl, after0_0]]
  rw [show (dat0 V c).leavesExact 1 t = owns (c : Thread nD τ) (st0_1 t) fullShare (iblk0 V c 1 t) from by
    unfold Dat.leavesExact; rw [show cfg0.idle 1 (grid0.coords t) = false from rfl, after0_1]]
  rw [show (dat0 V c).leavesExact 2 t = owns (c : Thread nD τ) (st0_2 t) fullShare (iblk0 V c 2 t) from by
    unfold Dat.leavesExact; rw [show cfg0.idle 2 (grid0.coords t) = false from rfl, after0_2]]
  rw [show (dat0 V c).leavesExact 3 t = owns (c : Thread nD τ) (st0_3 t) fullShare (iblk0 V c 3 t) from by
    unfold Dat.leavesExact; rw [show cfg0.idle 3 (grid0.coords t) = false from rfl, after0_3]]
  rw [show (dat0 V c).leavesExact 4 t = owns (c : Thread nD τ) (st0_4 t) fullShare (iblk0 V c 4 t) from by
    unfold Dat.leavesExact; rw [show cfg0.idle 4 (grid0.coords t) = false from rfl, after0_4]]
  rw [show (dat0 V c).leavesExact 5 t = owns (c : Thread nD τ) (st0_5 t) fullShare (iblk0 V c 5 t) from by
    unfold Dat.leavesExact; rw [show cfg0.idle 5 (grid0.coords t) = false from rfl, after0_5]]
  rw [show (dat0 V c).leavesExact 6 t = owns (c : Thread nD τ) (st0_6 t) fullShare (iblk0 V c 6 t) from by
    unfold Dat.leavesExact; rw [show cfg0.idle 6 (grid0.coords t) = false from rfl, after0_6]]
  rw [show (dat0 V c).leavesExact 7 t = owns (c : Thread nD τ) (st0_7 t) fullShare (iblk0 V c 7 t) from by
    unfold Dat.leavesExact; rw [show cfg0.idle 7 (grid0.coords t) = false from rfl, after0_7]]
  rw [show (dat0 V c).leavesExact 8 t = owns (c : Thread nD τ) (st0_8 t) fullShare (iblk0 V c 8 t) from by
    unfold Dat.leavesExact; rw [show cfg0.idle 8 (grid0.coords t) = false from rfl, after0_8]]
  rw [show (dat0 V c).leavesExact 9 t = owns (c : Thread nD τ) (st0_9 t) fullShare (iblk0 V c 9 t) from by
    unfold Dat.leavesExact; rw [show cfg0.idle 9 (grid0.coords t) = false from rfl, after0_9]]
  rw [show (dat0 V c).leavesExact 10 t = owns (c : Thread nD τ) (st0_10 t) fullShare (iblk0 V c 10 t) from by
    unfold Dat.leavesExact; rw [show cfg0.idle 10 (grid0.coords t) = false from rfl, after0_10]]
  rw [show (dat0 V c).leavesExact 11 t = owns (c : Thread nD τ) (st0_11 t) fullShare (iblk0 V c 11 t) from by
    unfold Dat.leavesExact; rw [show cfg0.idle 11 (grid0.coords t) = false from rfl, after0_11]]
  rw [show (dat0 V c).leavesExact 12 t = owns (c : Thread nD τ) (st0_12 t) fullShare (iblk0 V c 12 t) from by
    unfold Dat.leavesExact; rw [show cfg0.idle 12 (grid0.coords t) = false from rfl, after0_12]]
  rw [show (dat0 V c).leavesExact 13 t = owns (c : Thread nD τ) (st0_13 t) fullShare (kblk V c (pt t.val)) from by
    unfold Dat.leavesExact; rw [live0_13 t h1 h2, after0_13]]
  rw [show (dat0 V c).leavesExact 15 t = owns (c : Thread nD τ) (st0_15 t) fullShare (preblk V c (pt t.val) (pt_cond _)) from by
    unfold Dat.leavesExact; rw [live0_15 t h1 h2, after0_15]]
  rw [show (dat0 V c).leavesExact 16 t = owns (c : Thread nD τ) (st0_16 t) fullShare (dyblk V c (pt t.val) (pt_cond _)) from by
    unfold Dat.leavesExact; rw [live0_16 t h1 h2, after0_16]]
  rw [Dat.leavesExact_idle (dat0 V c) 14 t (idle0_14 t h2) (noflush0_14 t h2)]
  rw [Dat.leavesExact_idle (dat0 V c) 17 t (idle0_17 t h2) (noflush0_17 t h2)]
  rw [Dat.leavesExact_idle (dat0 V c) 18 t (idle0_18 t h2) (noflush0_18 t h2)]
  have hc := (cond2_iff t).2 ⟨h1, h2⟩
  rw [show kblk V c (pt t.val) = kblk V c t from congrArg (kblk V c) (pt_self t h1 h2),
    show preblk V c (pt t.val) (pt_cond _) = preblk V c t hc from by congr 1; exact pt_self t h1 h2,
    show dyblk V c (pt t.val) (pt_cond _) = dyblk V c t hc from by congr 1; exact pt_self t h1 h2]
  iintro ⟨⟨⟨%d0, %d1, %hk, HS0, HS1⟩, HR, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩⟩
  obtain rfl : d0 = H0 V c := hk.1 h1
  iapply (body0_B c (grid0.coords t) _ _ _ _ _ _ _ _ _ _ _ _ _ _ _ _ _ _ _ _ _ _ _ _ _ _ _ _ _ _ _ _ _ _ _ _ _ _ _ _ _ _ (fun h => by have := (cond1_iff t).1 h; omega) hc (fun h => by have := (cond3_iff t).1 h; omega) (iblk0 V c 0 t) (iblk0 V c 4 t) (iblk0 V c 5 t) (iblk0 V c 6 t) (iblk0 V c 7 t) (iblk0 V c 8 t) (iblk0 V c 9 t) (iblk0 V c 10 t) (iblk0 V c 11 t) (iblk0 V c 12 t) (H0 V c) d1 Set.univ _)
  isplitl [H0]; · iexact H0
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H15]; · iexists _; iexact H15
  isplitl [H16]; · iexists _; iexact H16
  isplitl [HS0]; · iexact HS0
  isplitl [HS1]; · iexact HS1
  iintro ⟨H0, H4, H5, H6, H7, H8, H9, H10, H11, H12, H13, H15, H16, HS0, HS1⟩
  isplitl [HS0 HS1 HR Hg]
  · isplitl [HS0 HS1]
    · iexists _, _
      isplitr
      swap
      · isplitl [HS0]; · iexact HS0
        iexact HS1
      ipureintro; exact known_step V c t h1 h2 hc d1 hk
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [H17]; · iexists _; iexact H17
  iexists _; iexact H18

set_option maxHeartbeats 2000000 in
theorem sound0_C (c : Dev nD) (t : Fin cfg0.N) (ht : t.val = 26) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = Phi0 V c (t.val + 1) from rfl, show (dat0 V c).Φ t.castSucc = Phi0 V c t.val from rfl,
    show (dat0 V c).owesAt () t.succ = (dat0 V c).owesAt () t.castSucc from rfl]
  unfold Phi0
  rw [show (dat0 V c).leavesExact 0 t = owns (c : Thread nD τ) (st0_0 t) fullShare (iblk0 V c 0 t) from by
    unfold Dat.leavesExact; rw [show cfg0.idle 0 (grid0.coords t) = false from rfl, after0_0]]
  rw [show (dat0 V c).leavesExact 1 t = owns (c : Thread nD τ) (st0_1 t) fullShare (iblk0 V c 1 t) from by
    unfold Dat.leavesExact; rw [show cfg0.idle 1 (grid0.coords t) = false from rfl, after0_1]]
  rw [show (dat0 V c).leavesExact 2 t = owns (c : Thread nD τ) (st0_2 t) fullShare (iblk0 V c 2 t) from by
    unfold Dat.leavesExact; rw [show cfg0.idle 2 (grid0.coords t) = false from rfl, after0_2]]
  rw [show (dat0 V c).leavesExact 3 t = owns (c : Thread nD τ) (st0_3 t) fullShare (iblk0 V c 3 t) from by
    unfold Dat.leavesExact; rw [show cfg0.idle 3 (grid0.coords t) = false from rfl, after0_3]]
  rw [show (dat0 V c).leavesExact 4 t = owns (c : Thread nD τ) (st0_4 t) fullShare (iblk0 V c 4 t) from by
    unfold Dat.leavesExact; rw [show cfg0.idle 4 (grid0.coords t) = false from rfl, after0_4]]
  rw [show (dat0 V c).leavesExact 5 t = owns (c : Thread nD τ) (st0_5 t) fullShare (iblk0 V c 5 t) from by
    unfold Dat.leavesExact; rw [show cfg0.idle 5 (grid0.coords t) = false from rfl, after0_5]]
  rw [show (dat0 V c).leavesExact 6 t = owns (c : Thread nD τ) (st0_6 t) fullShare (iblk0 V c 6 t) from by
    unfold Dat.leavesExact; rw [show cfg0.idle 6 (grid0.coords t) = false from rfl, after0_6]]
  rw [show (dat0 V c).leavesExact 7 t = owns (c : Thread nD τ) (st0_7 t) fullShare (iblk0 V c 7 t) from by
    unfold Dat.leavesExact; rw [show cfg0.idle 7 (grid0.coords t) = false from rfl, after0_7]]
  rw [show (dat0 V c).leavesExact 8 t = owns (c : Thread nD τ) (st0_8 t) fullShare (iblk0 V c 8 t) from by
    unfold Dat.leavesExact; rw [show cfg0.idle 8 (grid0.coords t) = false from rfl, after0_8]]
  rw [show (dat0 V c).leavesExact 9 t = owns (c : Thread nD τ) (st0_9 t) fullShare (iblk0 V c 9 t) from by
    unfold Dat.leavesExact; rw [show cfg0.idle 9 (grid0.coords t) = false from rfl, after0_9]]
  rw [show (dat0 V c).leavesExact 10 t = owns (c : Thread nD τ) (st0_10 t) fullShare (iblk0 V c 10 t) from by
    unfold Dat.leavesExact; rw [show cfg0.idle 10 (grid0.coords t) = false from rfl, after0_10]]
  rw [show (dat0 V c).leavesExact 11 t = owns (c : Thread nD τ) (st0_11 t) fullShare (iblk0 V c 11 t) from by
    unfold Dat.leavesExact; rw [show cfg0.idle 11 (grid0.coords t) = false from rfl, after0_11]]
  rw [show (dat0 V c).leavesExact 12 t = owns (c : Thread nD τ) (st0_12 t) fullShare (iblk0 V c 12 t) from by
    unfold Dat.leavesExact; rw [show cfg0.idle 12 (grid0.coords t) = false from rfl, after0_12]]
  simp only [before0_13_end V c t ht, before0_15_end V c t ht, before0_16_end V c t ht]
  rw [show (dat0 V c).leavesExact 13 t = owns (c : Thread nD τ) (st0_13 t) fullShare ((dat0 V c).after 13 t) from by
    unfold Dat.leavesExact; rw [idle0_13 t (Or.inr ht), doflush0_13 t ht]]
  rw [show (dat0 V c).leavesExact 15 t = owns (c : Thread nD τ) (st0_15 t) fullShare ((dat0 V c).after 15 t) from by
    unfold Dat.leavesExact; rw [idle0_15 t (Or.inr ht), doflush0_15 t ht]]
  rw [show (dat0 V c).leavesExact 16 t = owns (c : Thread nD τ) (st0_16 t) fullShare ((dat0 V c).after 16 t) from by
    unfold Dat.leavesExact; rw [idle0_16 t (Or.inr ht), doflush0_16 t ht]]
  rw [show (dat0 V c).leavesExact 14 t = owns (c : Thread nD τ) (st0_14 t) fullShare (k0_pay4 (H1 V c)) from by
    unfold Dat.leavesExact; rw [live0_14 t ht, after0_14]]
  rw [show (dat0 V c).leavesExact 17 t = owns (c : Thread nD τ) (st0_17 t) fullShare (k0_pay5 (H1 V c)) from by
    unfold Dat.leavesExact; rw [live0_17 t ht, after0_17]]
  rw [show (dat0 V c).leavesExact 18 t = owns (c : Thread nD τ) (st0_18 t) fullShare (k0_pay6 (H1 V c)) from by
    unfold Dat.leavesExact; rw [live0_18 t ht, after0_18]]
  iintro ⟨⟨⟨%d0, %d1, %hk, HS0, HS1⟩, HR, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩⟩
  obtain rfl : d1 = H1 V c := known_end V c t.val (by omega) d0 d1 hk
  iapply (body0_C c (grid0.coords t) _ _ _ _ _ _ _ _ _ _ _ _ _ _ _ _ _ _ _ _ _ _ _ _ _ _ _ _ _ _ _ _ _ _ _ _ _ _ _ _ _ _ (fun h => by have := (cond1_iff t).1 h; omega) (fun h => by have := (cond2_iff t).1 h; omega) ((cond3_iff t).2 ht) (H1 V c) Set.univ _)
  isplitl [H14]; · iexists _; iexact H14
  isplitl [H17]; · iexists _; iexact H17
  isplitl [H18]; · iexists _; iexact H18
  isplitl [HS1]; · iexact HS1
  iintro ⟨H14, H17, H18, HS1⟩
  isplitl [HS0 HS1 HR Hg]
  · isplitl [HS0 HS1]
    · iexists _, _
      isplitr
      swap
      · isplitl [HS0]; · iexact HS0
        iexact HS1
      ipureintro; exact ⟨fun _ => hk.1 (by omega), fun _ _ => rfl⟩
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem sound_body0 (c : Dev nD) (t : Fin cfg0.N) :
    bodyPre0 V c t ⊢ wp frame (wpE (defs₀ (F := F)) Variants.none c none) Set.univ (bodyAt0 t) (fun _ => bodyPost0 V c t) := by
  have hN : t.val < 27 := lt_of_lt_of_eq t.isLt (show cfg0.N = 27 from N_0)
  rcases Nat.eq_zero_or_pos t.val with h0 | h0
  · exact sound0_A V c t h0
  · by_cases h1 : t.val ≤ 25
    · exact sound0_B V c t h0 h1
    · exact sound0_C V c t (by omega)

theorem defs₀_row0 (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region0

end Cert.KernelIdeal.Hand
-- ==== Proof.Region1.lean ====
module

public import proofs.«01_k».proof.Proof.Gen.KernelIdeal.Launch
public import proofs.«01_k».proof.Proof.Gen.KernelIdeal.Skeleton
public import proofs.«01_k».proof.Proof.Gen.KernelIdeal.Points

public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The second call: its body on any staging memrefs, the proof data, the obligation

Every point computes a block of 400 rows of both results from the block's inputs alone. -/

/-- The block of the second result. -/
def crossv (x0 : Vec F S1x400x10000 .i8) (x1 : Vec F S10000x128 .i8) (x2 : Vec F S400x128 .f32) (x3 : Vec F S400x128 .f32) (x4 : Vec F S8x128 .f32) (x5 : Vec F S8x128 .f32) (x6 : Vec F S128x128 .f32) (x7 : Vec F S1x128 .f32) (x8 : Vec F S1x128 .f32) (x9 : Vec F S128x40 .f32) (x10 : Vec F S1x40 .f32) : Vec F S400x128 .f32 :=
  k1_pay1 (k1_pay3 x7) (k1_pay4 x8) (k1_pay5 x0 x1 (VecWindow.window x4 ![0, 0] S1x128.size inb_S8x128_S1x128_0_0) (VecWindow.window x5 ![0, 0] S1x128.size inb_S8x128_S1x128_0_0) x6 x2) (k1_pay6 x0 x1 (VecWindow.window x4 ![0, 0] S1x128.size inb_S8x128_S1x128_0_0) (VecWindow.window x5 ![0, 0] S1x128.size inb_S8x128_S1x128_0_0) x6 x2) x3
/-- The block of the first result. -/
def logpv (x0 : Vec F S1x400x10000 .i8) (x1 : Vec F S10000x128 .i8) (x2 : Vec F S400x128 .f32) (x3 : Vec F S400x128 .f32) (x4 : Vec F S8x128 .f32) (x5 : Vec F S8x128 .f32) (x6 : Vec F S128x128 .f32) (x7 : Vec F S1x128 .f32) (x8 : Vec F S1x128 .f32) (x9 : Vec F S128x40 .f32) (x10 : Vec F S1x40 .f32) : Vec F S400x40 .f32 :=
  k1_pay2 (k1_pay3 x7) (k1_pay4 x8) (k1_pay5 x0 x1 (VecWindow.window x4 ![0, 0] S1x128.size inb_S8x128_S1x128_0_0) (VecWindow.window x5 ![0, 0] S1x128.size inb_S8x128_S1x128_0_0) x6 x2) (k1_pay6 x0 x1 (VecWindow.window x4 ![0, 0] S1x128.size inb_S8x128_S1x128_0_0) (VecWindow.window x5 ![0, 0] S1x128.size inb_S8x128_S1x128_0_0) x6 x2) x3 x9 x10

set_option maxHeartbeats 2000000 in
theorem body1 (c : Dev nD) (i : grid1.Coords) (arg1 : Memref sig .tc .vmem S1x400x10000 .i8) (harg1 : arg1.IsWhole) (arg2 : Memref sig .tc .vmem S10000x128 .i8) (harg2 : arg2.IsWhole) (arg3 : Memref sig .tc .vmem S400x128 .f32) (harg3 : arg3.IsWhole) (arg4 : Memref sig .tc .vmem S400x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x40 .f32) (harg10 : arg10.IsWhole) (arg11 : Memref sig .tc .vmem S1x40 .f32) (harg11 : arg11.IsWhole) (arg12 : Memref sig .tc .vmem S400x40 .f32) (harg12 : arg12.IsWhole) (arg13 : Memref sig .tc .vmem S400x128 .f32) (harg13 : arg13.IsWhole)
    (x0 : Vec F S1x400x10000 .i8) (x1 : Vec F S10000x128 .i8) (x2 : Vec F S400x128 .f32) (x3 : Vec F S400x128 .f32) (x4 : Vec F S8x128 .f32) (x5 : Vec F S8x128 .f32) (x6 : Vec F S128x128 .f32) (x7 : Vec F S1x128 .f32) (x8 : Vec F S1x128 .f32) (x9 : Vec F S128x40 .f32) (x10 : Vec F S1x40 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (logpv x0 x1 x2 x3 x4 x5 x6 x7 x8 x9 x10) ∗ owns (c : Thread nD τ) arg13 fullShare (crossv x0 x1 x2 x3 x4 x5 x6 x7 x8 x9 x10)) -∗ K ⟨⟩))
      ⊢ wp frame (wpE (defs₀ (F := F)) Variants.none c none) E (cc1__layer2_body i arg1 harg1 arg2 harg2 arg3 harg3 arg4 harg4 arg5 harg5 arg6 harg6 arg7 harg7 arg8 harg8 arg9 harg9 arg10 harg10 arg11 harg11 arg12 harg12 arg13 harg13) K := by
  simp only [cc1__layer2_body_eq_skeleton]; unfold cc1__layer2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  sl_step
  have e1 : arg1.view.readAt (Elt F) (Rect.unit (s := S1x400x10000) ![0, 0, 0] ![1, 400, 10000] inb_S1x400x10000_S1x400x10000_0_0_0).toLoadRect (harg1.unread x0) = x0 :=
    (View.readAt_full _ _ _).trans (harg1.read_unread _)
  have e2 : arg2.view.readAt (Elt F) (Rect.unit (s := S10000x128) ![0, 0] ![10000, 128] inb_S10000x128_S10000x128_0_0).toLoadRect (harg2.unread x1) = x1 :=
    (View.readAt_full _ _ _).trans (harg2.read_unread _)
  have e3 : arg3.view.readAt (Elt F) (Rect.unit (s := S400x128) ![0, 0] ![400, 128] inb_S400x128_S400x128_0_0).toLoadRect (harg3.unread x2) = x2 :=
    (View.readAt_full _ _ _).trans (harg3.read_unread _)
  have e4 : arg4.view.readAt (Elt F) (Rect.unit (s := S400x128) ![0, 0] ![400, 128] inb_S400x128_S400x128_0_0).toLoadRect (harg4.unread x3) = x3 :=
    (View.readAt_full _ _ _).trans (harg4.read_unread _)
  have e5 : arg5.view.readAt (Elt F) (Rect.unit (s := S8x128) ![0, 0] ![1, 128] inb_S8x128_S1x128_0_0).toLoadRect (harg5.unread x4) = VecWindow.window x4 ![0, 0] S1x128.size inb_S8x128_S1x128_0_0 :=
    (View.readAt_unit _ _ _ rfl inb_S8x128_S1x128_0_0).trans (by rw [harg5.read_unread])
  have e6 : arg6.view.readAt (Elt F) (Rect.unit (s := S8x128) ![0, 0] ![1, 128] inb_S8x128_S1x128_0_0).toLoadRect (harg6.unread x5) = VecWindow.window x5 ![0, 0] S1x128.size inb_S8x128_S1x128_0_0 :=
    (View.readAt_unit _ _ _ rfl inb_S8x128_S1x128_0_0).trans (by rw [harg6.read_unread])
  have e7 : arg7.view.readAt (Elt F) (Rect.unit (s := S128x128) ![0, 0] ![128, 128] inb_S128x128_S128x128_0_0).toLoadRect (harg7.unread x6) = x6 :=
    (View.readAt_full _ _ _).trans (harg7.read_unread _)
  have e8 : arg8.view.readAt (Elt F) (Rect.unit (s := S1x128) ![0, 0] ![1, 128] inb_S1x128_S1x128_0_0).toLoadRect (harg8.unread x7) = x7 :=
    (View.readAt_full _ _ _).trans (harg8.read_unread _)
  have e9 : arg9.view.readAt (Elt F) (Rect.unit (s := S1x128) ![0, 0] ![1, 128] inb_S1x128_S1x128_0_0).toLoadRect (harg9.unread x8) = x8 :=
    (View.readAt_full _ _ _).trans (harg9.read_unread _)
  have e10 : arg10.view.readAt (Elt F) (Rect.unit (s := S128x40) ![0, 0] ![128, 40] inb_S128x40_S128x40_0_0).toLoadRect (harg10.unread x9) = x9 :=
    (View.readAt_full _ _ _).trans (harg10.read_unread _)
  have e11 : arg11.view.readAt (Elt F) (Rect.unit (s := S1x40) ![0, 0] ![1, 40] inb_S1x40_S1x40_0_0).toLoadRect (harg11.unread x10) = x10 :=
    (View.readAt_full _ _ _).trans (harg11.read_unread _)
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact (View.read_writes_full _ _ _ _ _).trans (by simp only [e1, e2, e3, e4, e5, e6, e7, e8, e9, e10, e11]; rfl)
  iexists _; isplitr; swap; · iexact H13
  ipureintro; exact (View.read_writes_full _ _ _ _ _).trans (by simp only [e1, e2, e3, e4, e5, e6, e7, e8, e9, e10, e11]; rfl)

section Region1
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => logpv (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    | ⟨12, _⟩ => crossv (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    | ⟨_ + 13, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = logpv (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]
theorem after1_12 (c : Dev nD) (t : Fin cfg1.N) : (dat1 V c).after 12 t = crossv (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare (iblk1 V c 0 t) from by
    unfold Dat.leavesExact; rw [show cfg1.idle 0 (grid1.coords t) = false from rfl, after1_0]]
  rw [show (dat1 V c).leavesExact 1 t = owns (c : Thread nD τ) (st1_1 t) fullShare (iblk1 V c 1 t) from by
    unfold Dat.leavesExact; rw [show cfg1.idle 1 (grid1.coords t) = false from rfl, after1_1]]
  rw [show (dat1 V c).leavesExact 2 t = owns (c : Thread nD τ) (st1_2 t) fullShare (iblk1 V c 2 t) from by
    unfold Dat.leavesExact; rw [show cfg1.idle 2 (grid1.coords t) = false from rfl, after1_2]]
  rw [show (dat1 V c).leavesExact 3 t = owns (c : Thread nD τ) (st1_3 t) fullShare (iblk1 V c 3 t) from by
    unfold Dat.leavesExact; rw [show cfg1.idle 3 (grid1.coords t) = false from rfl, after1_3]]
  rw [show (dat1 V c).leavesExact 4 t = owns (c : Thread nD τ) (st1_4 t) fullShare (iblk1 V c 4 t) from by
    unfold Dat.leavesExact; rw [show cfg1.idle 4 (grid1.coords t) = false from rfl, after1_4]]
  rw [show (dat1 V c).leavesExact 5 t = owns (c : Thread nD τ) (st1_5 t) fullShare (iblk1 V c 5 t) from by
    unfold Dat.leavesExact; rw [show cfg1.idle 5 (grid1.coords t) = false from rfl, after1_5]]
  rw [show (dat1 V c).leavesExact 6 t = owns (c : Thread nD τ) (st1_6 t) fullShare (iblk1 V c 6 t) from by
    unfold Dat.leavesExact; rw [show cfg1.idle 6 (grid1.coords t) = false from rfl, after1_6]]
  rw [show (dat1 V c).leavesExact 7 t = owns (c : Thread nD τ) (st1_7 t) fullShare (iblk1 V c 7 t) from by
    unfold Dat.leavesExact; rw [show cfg1.idle 7 (grid1.coords t) = false from rfl, after1_7]]
  rw [show (dat1 V c).leavesExact 8 t = owns (c : Thread nD τ) (st1_8 t) fullShare (iblk1 V c 8 t) from by
    unfold Dat.leavesExact; rw [show cfg1.idle 8 (grid1.coords t) = false from rfl, after1_8]]
  rw [show (dat1 V c).leavesExact 9 t = owns (c : Thread nD τ) (st1_9 t) fullShare (iblk1 V c 9 t) from by
    unfold Dat.leavesExact; rw [show cfg1.idle 9 (grid1.coords t) = false from rfl, after1_9]]
  rw [show (dat1 V c).leavesExact 10 t = owns (c : Thread nD τ) (st1_10 t) fullShare (iblk1 V c 10 t) from by
    unfold Dat.leavesExact; rw [show cfg1.idle 10 (grid1.coords t) = false from rfl, after1_10]]
  rw [show (dat1 V c).leavesExact 11 t = owns (c : Thread nD τ) (st1_11 t) fullShare (logpv (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) from by
    unfold Dat.leavesExact; rw [show cfg1.idle 11 (grid1.coords t) = false from rfl, after1_11]]
  rw [show (dat1 V c).leavesExact 12 t = owns (c : Thread nD τ) (st1_12 t) fullShare (crossv (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) from by
    unfold Dat.leavesExact; rw [show cfg1.idle 12 (grid1.coords t) = false from rfl, after1_12]]
  iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  iapply (body1 c (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row1 (t : Fin cfg1.N) :
    defs₀ (F := F) .tc cfg1.body (cfg1.bodyArgs t (cfg1.slots t)) = bodyAt1 t := by
  unfold defs₀; rw [Defs.onTc_tc]

/-- The pipeline's obligation on the body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region1

end Cert.KernelIdeal.Hand
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Region0
public import proofs.«01_k».proof.Proof.Region1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12]

/-! ## The host stretches write no argument -/

theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev E0 : Dev nD → Valuation τ sig (Elt F) := fun c b => (s₀ m ρ).mem ((c : Dev nD), b)
theorem E0_args (c : Dev nD) : ∀ a ∈ argRefs, E0 m ρ c (Proc.devRef .tc a) = m ((c : Thread nD τ).loc a) := fun _ _ => rfl
/-- After `hostOps0` (region 0's entry). -/
abbrev E1 : Dev nD → Valuation τ sig (Elt F) := fun c => StableHlo.after hostOps0 (E0 m ρ c)
/-- A reference `hostOps0` does not write keeps its contents across it. -/
theorem E1_of (c : Dev nD) (r : Ref sig .tc) (h : r ∉ hostOps0_W) : E1 m ρ c (Proc.devRef .tc r) = E0 m ρ c (Proc.devRef .tc r) :=
  StableHlo.after_of_writes_sub hostOps0 _ hostOps0_writes h
theorem E1_args (c : Dev nD) : ∀ a ∈ argRefs, E1 m ρ c (Proc.devRef .tc a) = m ((c : Thread nD τ).loc a) :=
  fun a ha => (E1_of m ρ c a (hostOps0_args a ha)).trans (E0_args m ρ c a ha)
/-- The same read at the TensorCore's references (what region 0's proof data take). -/
abbrev U1 : (c : Dev nD) → (b : Ref sig .tc) → Buf (Elt F) ((c : Thread nD τ).loc b) := fun c b => E1 m ρ c b
/-- At region 0's exit: its arrays at what the pipeline leaves (the inputs as entered, each output's write-backs
    folded: `Dat.arrAt … N`), every other buffer as entered (Lib/Pipeline/FrameSuffix.lean `withArrays`). -/
def E2 (c : Dev nD) : Valuation τ sig (Elt F) :=
  Pipeline.withArrays spec0 c (E1 m ρ c) fun w => (dat0 (U1 m ρ) c).arrAt w cfg0.N
theorem E2_arr (c : Dev nD) (w : Fin cfg0.W) :
    E2 m ρ c (Proc.devRef .tc (Pipeline.arrRef spec0 w)) = (dat0 (U1 m ρ) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m ρ c (Proc.devRef .tc b) = E1 m ρ c (Proc.devRef .tc b) := by
  unfold E2; exact Pipeline.withArrays_of_ne spec0 c _ _ b hb
/-- A reference that is none of region 0's OUTPUT arrays keeps its entry contents across it: an input window's
    array is never written back (`Dat.arrAt_in`, `A_eq0`); any other buffer is left as is. -/
theorem E2_of (c : Dev nD) (r : Ref sig .tc) (h : ∀ w : Fin cfg0.W, Pipeline.arrRef spec0 w = r → (cfg0.win w).isOut = false) :
    E2 m ρ c (Proc.devRef .tc r) = E1 m ρ c (Proc.devRef .tc r) := by
  by_cases hw : ∃ w : Fin cfg0.W, Pipeline.arrRef spec0 w = r
  · obtain ⟨w, rfl⟩ := hw
    exact (E2_arr m ρ c w).trans (((dat0 (U1 m ρ) c).arrAt_in w (h w rfl) _).trans (A_eq0 (U1 m ρ) c w))
  · exact E2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem E2_args (c : Dev nD) : ∀ a ∈ argRefs, E2 m ρ c (Proc.devRef .tc a) = m ((c : Thread nD τ).loc a) :=
  fun a ha => (E2_of m ρ c a (argsIn0 a ha)).trans (E1_args m ρ c a ha)
/-- The same read at the TensorCore's references (region 0's exit contents). -/
abbrev U2 : (c : Dev nD) → (b : Ref sig .tc) → Buf (Elt F) ((c : Thread nD τ).loc b) := fun c b => E2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (U1 m ρ) c).arrAt w cfg0.N = U2 m ρ c (Pipeline.arrRef spec0 w) :=
  (E2_arr m ρ c w).symm
theorem hrest0 (c : Dev nD) : ∀ b, b ∉ Finset.univ.image (Pipeline.arrRef spec0) → U2 m ρ c b = U1 m ρ c b :=
  fun b hb => E2_of_ne m ρ c b fun w e => hb (Finset.mem_image.mpr ⟨w, Finset.mem_univ _, e⟩)

/-- After `hostOps1` (region 1's entry). -/
abbrev E3 : Dev nD → Valuation τ sig (Elt F) := fun c => StableHlo.after hostOps1 (E2 m ρ c)
/-- A reference `hostOps1` does not write keeps its contents across it. -/
theorem E3_of (c : Dev nD) (r : Ref sig .tc) (h : r ∉ hostOps1_W) : E3 m ρ c (Proc.devRef .tc r) = E2 m ρ c (Proc.devRef .tc r) :=
  StableHlo.after_of_writes_sub hostOps1 _ hostOps1_writes h
theorem E3_args (c : Dev nD) : ∀ a ∈ argRefs, E3 m ρ c (Proc.devRef .tc a) = m ((c : Thread nD τ).loc a) :=
  fun a ha => (E3_of m ρ c a (hostOps1_args a ha)).trans (E2_args m ρ c a ha)
/-- The same read at the TensorCore's references (what region 1's proof data take). -/
abbrev U3 : (c : Dev nD) → (b : Ref sig .tc) → Buf (Elt F) ((c : Thread nD τ).loc b) := fun c b => E3 m ρ c b
/-- At region 1's exit: its arrays at what the pipeline leaves (the inputs as entered, each output's write-backs
    folded: `Dat.arrAt … N`), every other buffer as entered (Lib/Pipeline/FrameSuffix.lean `withArrays`). -/
def E4 (c : Dev nD) : Valuation τ sig (Elt F) :=
  Pipeline.withArrays spec1 c (E3 m ρ c) fun w => (dat1 (U3 m ρ) c).arrAt w cfg1.N
theorem E4_arr (c : Dev nD) (w : Fin cfg1.W) :
    E4 m ρ c (Proc.devRef .tc (Pipeline.arrRef spec1 w)) = (dat1 (U3 m ρ) c).arrAt w cfg1.N := by
  unfold E4; exact Pipeline.withArrays_arr spec1 launch1.win.arr_inj c _ _ w
theorem E4_of_ne (c : Dev nD) (b : Ref sig .tc) (hb : ∀ w, Pipeline.arrRef spec1 w ≠ b) :
    E4 m ρ c (Proc.devRef .tc b) = E3 m ρ c (Proc.devRef .tc b) := by
  unfold E4; exact Pipeline.withArrays_of_ne spec1 c _ _ b hb
/-- A reference that is none of region 1's OUTPUT arrays keeps its entry contents across it: an input window's
    array is never written back (`Dat.arrAt_in`, `A_eq1`); any other buffer is left as is. -/
theorem E4_of (c : Dev nD) (r : Ref sig .tc) (h : ∀ w : Fin cfg1.W, Pipeline.arrRef spec1 w = r → (cfg1.win w).isOut = false) :
    E4 m ρ c (Proc.devRef .tc r) = E3 m ρ c (Proc.devRef .tc r) := by
  by_cases hw : ∃ w : Fin cfg1.W, Pipeline.arrRef spec1 w = r
  · obtain ⟨w, rfl⟩ := hw
    exact (E4_arr m ρ c w).trans (((dat1 (U3 m ρ) c).arrAt_in w (h w rfl) _).trans (A_eq1 (U3 m ρ) c w))
  · exact E4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem E4_args (c : Dev nD) : ∀ a ∈ argRefs, E4 m ρ c (Proc.devRef .tc a) = m ((c : Thread nD τ).loc a) :=
  fun a ha => (E4_of m ρ c a (argsIn1 a ha)).trans (E3_args m ρ c a ha)
/-- The same read at the TensorCore's references (region 1's exit contents). -/
abbrev U4 : (c : Dev nD) → (b : Ref sig .tc) → Buf (Elt F) ((c : Thread nD τ).loc b) := fun c b => E4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (U3 m ρ) c).arrAt w cfg1.N = U4 m ρ c (Pipeline.arrRef spec1 w) :=
  (E4_arr m ρ c w).symm
theorem hrest1 (c : Dev nD) : ∀ b, b ∉ Finset.univ.image (Pipeline.arrRef spec1) → U4 m ρ c b = U3 m ρ c b :=
  fun b hb => E4_of_ne m ρ c b fun w e => hb (Finset.mem_image.mpr ⟨w, Finset.mem_univ _, e⟩)

/-! ### The arguments end as launched: no host stretch writes one and no region may change one (a region reads it
    through an input window or bypasses it) -/

theorem E4_main_arg0 (c : Dev nD) : E4 m ρ c (Proc.devRef .tc main_arg0) = m ((c : Thread nD τ).loc main_arg0) :=
  E4_args m ρ c main_arg0 (by decide)
theorem E4_main_arg1 (c : Dev nD) : E4 m ρ c (Proc.devRef .tc main_arg1) = m ((c : Thread nD τ).loc main_arg1) :=
  E4_args m ρ c main_arg1 (by decide)
theorem E4_main_arg2 (c : Dev nD) : E4 m ρ c (Proc.devRef .tc main_arg2) = m ((c : Thread nD τ).loc main_arg2) :=
  E4_args m ρ c main_arg2 (by decide)
theorem E4_main_arg3 (c : Dev nD) : E4 m ρ c (Proc.devRef .tc main_arg3) = m ((c : Thread nD τ).loc main_arg3) :=
  E4_args m ρ c main_arg3 (by decide)
theorem E4_main_arg4 (c : Dev nD) : E4 m ρ c (Proc.devRef .tc main_arg4) = m ((c : Thread nD τ).loc main_arg4) :=
  E4_args m ρ c main_arg4 (by decide)
theorem E4_main_arg5 (c : Dev nD) : E4 m ρ c (Proc.devRef .tc main_arg5) = m ((c : Thread nD τ).loc main_arg5) :=
  E4_args m ρ c main_arg5 (by decide)
theorem E4_main_arg6 (c : Dev nD) : E4 m ρ c (Proc.devRef .tc main_arg6) = m ((c : Thread nD τ).loc main_arg6) :=
  E4_args m ρ c main_arg6 (by decide)
theorem E4_main_arg7 (c : Dev nD) : E4 m ρ c (Proc.devRef .tc main_arg7) = m ((c : Thread nD τ).loc main_arg7) :=
  E4_args m ρ c main_arg7 (by decide)
theorem E4_main_arg8 (c : Dev nD) : E4 m ρ c (Proc.devRef .tc main_arg8) = m ((c : Thread nD τ).loc main_arg8) :=
  E4_args m ρ c main_arg8 (by decide)
theorem E4_main_arg9 (c : Dev nD) : E4 m ρ c (Proc.devRef .tc main_arg9) = m ((c : Thread nD τ).loc main_arg9) :=
  E4_args m ρ c main_arg9 (by decide)
theorem E4_main_arg10 (c : Dev nD) : E4 m ρ c (Proc.devRef .tc main_arg10) = m ((c : Thread nD τ).loc main_arg10) :=
  E4_args m ρ c main_arg10 (by decide)
theorem E4_main_arg11 (c : Dev nD) : E4 m ρ c (Proc.devRef .tc main_arg11) = m ((c : Thread nD τ).loc main_arg11) :=
  E4_args m ρ c main_arg11 (by decide)
theorem E4_main_arg12 (c : Dev nD) : E4 m ρ c (Proc.devRef .tc main_arg12) = m ((c : Thread nD τ).loc main_arg12) :=
  E4_args m ρ c main_arg12 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `E4`, the generator register at some state. -/
abbrev Tₙ (c : Dev nD) : sProp 𝕄 := iprop(StableHlo.held (c : Thread nD τ) (Pipeline.ucRefs τ sig) (E4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `E1`, left at `E2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (E1 m ρ c) ∗ R c)
  post c := iprop(StableHlo.held (c : Thread nD τ) (Pipeline.ucRefs τ sig) (E2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (U1 m ρ) c 0 from rfl]
    have h := Phi0_start (U1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = Phi0 (U1 m ρ) c (Fin.last cfg0.N).val from rfl]
    have h := Phi0_end (U1 m ρ) c (Fin.last cfg0.N).val
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `E3`, left at `E4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (E3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) (A_eq1 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (E0 m ρ)),
    .region (reg0 m ρ),
    .host (hseg hostOps1 hostOps1_sub hostOps1_fresh (E2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters, every weakly fair execution of @main on the TensorCores terminates, nothing
    faulting, and every final state has every unscoped buffer at the last boundary's contents and every semaphore counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = E4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E4 m ρ c b)
    (hfin := fun c s' => by
      iintro ⟨⟨Hh, -⟩, HSI⟩
      unfold StableHlo.held
      imodintro
      iapply (pointsTo_read_all (Pipeline.ucRefs τ sig) (fun b => (((c : Thread nD τ)).1, b)) (E4 m ρ c) s')
      isplitl [Hh] <;> iassumption)
    (hQ := fun s h hz => ⟨h, funext fun g => hz g (.inr (no_unscoped g.2))⟩)

/-- The frame: the argument arrays end as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c =>
      ⟨(h.1 c _ (mem_uc main_arg0 (by decide))).trans (E4_main_arg0 m ρ c),
       (h.1 c _ (mem_uc main_arg1 (by decide))).trans (E4_main_arg1 m ρ c),
       (h.1 c _ (mem_uc main_arg2 (by decide))).trans (E4_main_arg2 m ρ c),
       (h.1 c _ (mem_uc main_arg3 (by decide))).trans (E4_main_arg3 m ρ c),
       (h.1 c _ (mem_uc main_arg4 (by decide))).trans (E4_main_arg4 m ρ c),
       (h.1 c _ (mem_uc main_arg5 (by decide))).trans (E4_main_arg5 m ρ c),
       (h.1 c _ (mem_uc main_arg6 (by decide))).trans (E4_main_arg6 m ρ c),
       (h.1 c _ (mem_uc main_arg7 (by decide))).trans (E4_main_arg7 m ρ c),
       (h.1 c _ (mem_uc main_arg8 (by decide))).trans (E4_main_arg8 m ρ c),
       (h.1 c _ (mem_uc main_arg9 (by decide))).trans (E4_main_arg9 m ρ c),
       (h.1 c _ (mem_uc main_arg10 (by decide))).trans (E4_main_arg10 m ρ c),
       (h.1 c _ (mem_uc main_arg11 (by decide))).trans (E4_main_arg11 m ρ c),
       (h.1 c _ (mem_uc main_arg12 (by decide))).trans (E4_main_arg12 m ρ c)⟩, h.2⟩) (run_main m ρ)

end Cert.KernelIdeal.Hand
-- ==== Proof.FrameBits.lean ====
module

public import proofs.«01_k».proof.Defs
public import proofs.«01_k».proof.Proof.Gen.Kernel
public import proofs.«01_k».proof.Proof.Run

@[expose] public section

set_option maxRecDepth 16384

noncomputable section

namespace Cert.Proof

open Idealize.ShloMosaic Idealize.ShloMosaic.Tactic Idealize.SL.Sem

/-! # The kernel's own frame, from the one run

At the bit instance a named constant is read as its own bit pattern: the ideal program's text is then the kernel's. -/

@[instance_reducible] def namedBits : Named Bits := ⟨fun _ _ {φ} bits => Scalar.ofBits φ bits⟩

attribute [local instance] namedBits
attribute [local instance] Cert.Kernel.Gen.facts Cert.KernelIdeal.Gen.facts

/-- The two frame statements are one. -/
theorem frame_same : (∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0))
    = (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)) := by
  sl_kernel_rfl

theorem frame_kernel : Cert.quiescent_Kernel := fun m ρ _ =>
  frame_same.mp (fun m ρ => Cert.KernelIdeal.Hand.frame_main (F := Bits) m ρ) m ρ

end Cert.Proof
-- ==== Proof.Arr.lean ====
module

public import proofs.«01_k».proof.Proof.Run
public import Idealize.ShloMosaic.Lib.Pipeline.ValueKit
public import Idealize.ShloMosaic.Lib.ValueIdx

@[expose] public section

/-! What the windows' blocks are of their arrays, and what the output arrays hold at the end of each pipeline. -/

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

/-! ## Blocks that are the entire array -/

theorem iblk0_1 (c : Dev nD) (t : Fin cfg0.N) : iblk0 V c 1 t = V c main_arg0 :=
  funext fun y => congrArg (V c main_arg0) (funext fun a => Fin.ext (Pipeline.Window.rect_emb_val_of_index_zero win0_1 t a
    (match a with | ⟨0, _⟩ => rfl | ⟨1, _⟩ => rfl) y))
theorem iblk0_2 (c : Dev nD) (t : Fin cfg0.N) : iblk0 V c 2 t = V c main_arg2 :=
  funext fun y => congrArg (V c main_arg2) (funext fun a => Fin.ext (Pipeline.Window.rect_emb_val_of_index_zero win0_2 t a
    (match a with | ⟨0, _⟩ => rfl | ⟨1, _⟩ => rfl) y))
theorem iblk0_3 (c : Dev nD) (t : Fin cfg0.N) : iblk0 V c 3 t = V c main_v44 :=
  funext fun y => congrArg (V c main_v44) (funext fun a => Fin.ext (Pipeline.Window.rect_emb_val_of_index_zero win0_3 t a
    (match a with | ⟨0, _⟩ => rfl | ⟨1, _⟩ => rfl) y))
theorem iblk0_4 (c : Dev nD) (t : Fin cfg0.N) : iblk0 V c 4 t = V c main_v12 :=
  funext fun y => congrArg (V c main_v12) (funext fun a => Fin.ext (Pipeline.Window.rect_emb_val_of_index_zero win0_4 t a
    (match a with | ⟨0, _⟩ => rfl | ⟨1, _⟩ => rfl) y))
theorem iblk0_5 (c : Dev nD) (t : Fin cfg0.N) : iblk0 V c 5 t = V c main_v19 :=
  funext fun y => congrArg (V c main_v19) (funext fun a => Fin.ext (Pipeline.Window.rect_emb_val_of_index_zero win0_5 t a
    (match a with | ⟨0, _⟩ => rfl | ⟨1, _⟩ => rfl) y))
theorem iblk0_6 (c : Dev nD) (t : Fin cfg0.N) : iblk0 V c 6 t = V c main_v33 :=
  funext fun y => congrArg (V c main_v33) (funext fun a => Fin.ext (Pipeline.Window.rect_emb_val_of_index_zero win0_6 t a
    (match a with | ⟨0, _⟩ => rfl | ⟨1, _⟩ => rfl) y))
theorem iblk0_7 (c : Dev nD) (t : Fin cfg0.N) : iblk0 V c 7 t = V c main_v38 :=
  funext fun y => congrArg (V c main_v38) (funext fun a => Fin.ext (Pipeline.Window.rect_emb_val_of_index_zero win0_7 t a
    (match a with | ⟨0, _⟩ => rfl | ⟨1, _⟩ => rfl) y))
theorem iblk0_8 (c : Dev nD) (t : Fin cfg0.N) : iblk0 V c 8 t = V c main_v47 :=
  funext fun y => congrArg (V c main_v47) (funext fun a => Fin.ext (Pipeline.Window.rect_emb_val_of_index_zero win0_8 t a
    (match a with | ⟨0, _⟩ => rfl | ⟨1, _⟩ => rfl) y))
theorem iblk0_9 (c : Dev nD) (t : Fin cfg0.N) : iblk0 V c 9 t = V c main_v43 :=
  funext fun y => congrArg (V c main_v43) (funext fun a => Fin.ext (Pipeline.Window.rect_emb_val_of_index_zero win0_9 t a
    (match a with | ⟨0, _⟩ => rfl | ⟨1, _⟩ => rfl) y))
theorem iblk0_10 (c : Dev nD) (t : Fin cfg0.N) : iblk0 V c 10 t = V c main_v50 :=
  funext fun y => congrArg (V c main_v50) (funext fun a => Fin.ext (Pipeline.Window.rect_emb_val_of_index_zero win0_10 t a
    (match a with | ⟨0, _⟩ => rfl | ⟨1, _⟩ => rfl) y))
theorem iblk0_11 (c : Dev nD) (t : Fin cfg0.N) : iblk0 V c 11 t = V c main_v51 :=
  funext fun y => congrArg (V c main_v51) (funext fun a => Fin.ext (Pipeline.Window.rect_emb_val_of_index_zero win0_11 t a
    (match a with | ⟨0, _⟩ => rfl | ⟨1, _⟩ => rfl) y))
theorem iblk0_12 (c : Dev nD) (t : Fin cfg0.N) : iblk0 V c 12 t = V c main_v52 :=
  funext fun y => congrArg (V c main_v52) (funext fun a => Fin.ext (Pipeline.Window.rect_emb_val_of_index_zero win0_12 t a
    (match a with | ⟨0, _⟩ => rfl | ⟨1, _⟩ => rfl) y))
theorem iblk1_1 (c : Dev nD) (t : Fin cfg1.N) : iblk1 V c 1 t = V c main_v53_1 :=
  funext fun y => congrArg (V c main_v53_1) (funext fun a => Fin.ext (Pipeline.Window.rect_emb_val_of_index_zero win1_1 t a
    (match a with | ⟨0, _⟩ => rfl | ⟨1, _⟩ => rfl) y))
theorem iblk1_4 (c : Dev nD) (t : Fin cfg1.N) : iblk1 V c 4 t = V c main_v53_4 :=
  funext fun y => congrArg (V c main_v53_4) (funext fun a => Fin.ext (Pipeline.Window.rect_emb_val_of_index_zero win1_4 t a
    (match a with | ⟨0, _⟩ => rfl | ⟨1, _⟩ => rfl) y))
theorem iblk1_5 (c : Dev nD) (t : Fin cfg1.N) : iblk1 V c 5 t = V c main_v53_5 :=
  funext fun y => congrArg (V c main_v53_5) (funext fun a => Fin.ext (Pipeline.Window.rect_emb_val_of_index_zero win1_5 t a
    (match a with | ⟨0, _⟩ => rfl | ⟨1, _⟩ => rfl) y))
theorem iblk1_6 (c : Dev nD) (t : Fin cfg1.N) : iblk1 V c 6 t = V c main_v26 :=
  funext fun y => congrArg (V c main_v26) (funext fun a => Fin.ext (Pipeline.Window.rect_emb_val_of_index_zero win1_6 t a
    (match a with | ⟨0, _⟩ => rfl | ⟨1, _⟩ => rfl) y))
theorem iblk1_7 (c : Dev nD) (t : Fin cfg1.N) : iblk1 V c 7 t = V c main_v54 :=
  funext fun y => congrArg (V c main_v54) (funext fun a => Fin.ext (Pipeline.Window.rect_emb_val_of_index_zero win1_7 t a
    (match a with | ⟨0, _⟩ => rfl | ⟨1, _⟩ => rfl) y))
theorem iblk1_8 (c : Dev nD) (t : Fin cfg1.N) : iblk1 V c 8 t = V c main_v55 :=
  funext fun y => congrArg (V c main_v55) (funext fun a => Fin.ext (Pipeline.Window.rect_emb_val_of_index_zero win1_8 t a
    (match a with | ⟨0, _⟩ => rfl | ⟨1, _⟩ => rfl) y))
theorem iblk1_9 (c : Dev nD) (t : Fin cfg1.N) : iblk1 V c 9 t = V c main_arg11 :=
  funext fun y => congrArg (V c main_arg11) (funext fun a => Fin.ext (Pipeline.Window.rect_emb_val_of_index_zero win1_9 t a
    (match a with | ⟨0, _⟩ => rfl | ⟨1, _⟩ => rfl) y))
theorem iblk1_10 (c : Dev nD) (t : Fin cfg1.N) : iblk1 V c 10 t = V c main_v56 :=
  funext fun y => congrArg (V c main_v56) (funext fun a => Fin.ext (Pipeline.Window.rect_emb_val_of_index_zero win1_10 t a
    (match a with | ⟨0, _⟩ => rfl | ⟨1, _⟩ => rfl) y))

/-! ## Row blocks -/

/-- Row `i` of row block `b`. -/
def gr (b : Fin 25) (i : Fin 400) : Fin 10000 := ⟨b.val * 400 + i.val, by have := b.isLt; have := i.isLt; omega⟩

/-- The block of a row, and the row's place in it. -/
def bk (i : Fin 10000) : Fin 25 := ⟨i.val / 400, by have := i.isLt; omega⟩
def wi (i : Fin 10000) : Fin 400 := ⟨i.val % 400, Nat.mod_lt _ (by decide)⟩
theorem gr_bk_wi (i : Fin 10000) : gr (bk i) (wi i) = i := Fin.ext (by
  show i.val / 400 * 400 + i.val % 400 = i.val
  omega)
theorem bk_gr (b : Fin 25) (i : Fin 400) : bk (gr b i) = b := Fin.ext (by
  show (b.val * 400 + i.val) / 400 = b.val
  have := i.isLt; omega)
theorem wi_gr (b : Fin 25) (i : Fin 400) : wi (gr b i) = i := Fin.ext (by
  show (b.val * 400 + i.val) % 400 = i.val
  have := i.isLt; omega)

/-- The point of the first pipeline that works on row block `b`. -/
def pb (b : Fin 25) : Fin cfg0.N := pt (b.val + 1)
theorem pb_cond (b : Fin 25) : k0_cond2 (grid0.coords (pb b)) = 1#1 := pt_cond _

theorem index0_0 : ∀ b : Fin 25, win0_0.index (pb b) = ![b.val, 0] := by decide +kernel

theorem iblk0_0 (c : Dev nD) (b : Fin 25) (i : Fin 400) (k : Fin 10000) :
    iblk0 V c 0 (pb b) (ValueIdx.ix2 i k) = V c main_arg1 (ValueIdx.ix2 (gr b i) k) :=
  congrArg (V c main_arg1) (funext fun a => Fin.ext ((Pipeline.Window.rect_emb_val win0_0 (pb b) (ValueIdx.ix2 i k) a rfl).trans (by
    rw [index0_0]
    match a with
    | ⟨0, _⟩ => rfl
    | ⟨1, _⟩ => exact (Nat.zero_mul _).symm ▸ Nat.zero_add _)))

theorem off0 (b : Fin 25) : k0_off1 (grid0.coords (pb b)) = ![400 * b.val, 0] := by
  have := b.isLt
  have e : (pb b).val = b.val + 1 := by show max 1 (min (b.val + 1) 25) = b.val + 1; omega
  rw [off_eq (pb b) (by omega) (by omega), e, Nat.add_sub_cancel]

theorem window_at {α : Type} (x : S10000x128.Idx → α) (off : Fin 2 → ℕ) (inb) (n : ℕ) (h : off = ![n, 0]) (i : Fin 400) (j : Fin 128) (r : Fin 10000)
    (hr : r.val = n + i.val) : VecWindow.window x off S400x128.size inb (ValueIdx.ix2 i j) = x (ValueIdx.ix2 r j) := by
  subst h
  refine congrArg x (funext fun a => Fin.ext ((ValueKit.rect_emb_unit_val (s := S10000x128) ![n, 0] S400x128.size inb (ValueIdx.ix2 i j) a).trans ?_))
  match a with
  | ⟨0, _⟩ => exact hr.symm
  | ⟨1, _⟩ => show 0 + j.val = j.val; omega

theorem rows_apply (c : Dev nD) (b : Fin 25) (i : Fin 400) (j : Fin 128) :
    rows V c (pb b) (pb_cond b) (ValueIdx.ix2 i j) = H0 V c (ValueIdx.ix2 (gr b i) j) :=
  window_at (H0 V c) _ _ (400 * b.val) (off0 b) i j (gr b i) (by show b.val * 400 + i.val = _; omega)

theorem H1_apply (c : Dev nD) (i : Fin 10000) (j : Fin 128) :
    H1 V c (ValueIdx.ix2 i j) = h1blk V c (pb (bk i)) (pb_cond _) (ValueIdx.ix2 (wi i) j) :=
  congrArg (h1blk V c (pb (bk i)) (pb_cond _)) (funext fun a => match a with | ⟨0, _⟩ => rfl | ⟨1, _⟩ => rfl)

/-! ## The first pipeline's outputs -/

/-- The point's row block. -/
def bt (t : Fin cfg0.N) : Fin 25 := ⟨(pt t.val).val - 1, by
  show max 1 (min t.val 25) - 1 < 25
  omega⟩
theorem pb_bt (t : Fin cfg0.N) : pb (bt t) = pt t.val := Fin.ext (by
  show max 1 (min (max 1 (min t.val 25) - 1 + 1) 25) = max 1 (min t.val 25)
  omega)
theorem blk_congr (c : Dev nD) {t t' : Fin cfg0.N} (e : t = t') (h) (h') : preblk V c t h = preblk V c t' h' ∧ dyblk V c t h = dyblk V c t' h' := by
  subst e; exact ⟨rfl, rfl⟩

theorem index0_13 : ∀ t : Fin cfg0.N, win0_13.index t = ![(bt t).val, 0, 0] := by decide +kernel
theorem index0_15 : ∀ t : Fin cfg0.N, win0_15.index t = ![(bt t).val, 0] := by decide +kernel
theorem index0_16 : ∀ t : Fin cfg0.N, win0_16.index t = ![(bt t).val, 0] := by decide +kernel

/-- The quantised adjacency, its row blocks stacked. -/
def kArr (c : Dev nD) : Vec F S25x400x10000 .i8 := fun y => kblk V c (pb (y 0)) (ValueIdx.ix3 0 (y 1) (y 2))
/-- The second layer's residual. -/
def preArr (c : Dev nD) : Vec F S10000x128 .f32 := fun y => preblk V c (pb (bk (y 0))) (pb_cond _) (ValueIdx.ix2 (wi (y 0)) (y 1))
/-- The normalised side branch. -/
def dyArr (c : Dev nD) : Vec F S10000x128 .f32 := fun y => dyblk V c (pb (bk (y 0))) (pb_cond _) (ValueIdx.ix2 (wi (y 0)) (y 1))

theorem emb0_13 (t : Fin cfg0.N) (y : S1x400x10000.Idx) (a : Fin 3) :
    (((win0_13.rect t).emb y a : Fin _) : ℕ) = (ValueIdx.ix3 (bt t) (y 1) (y 2) a : Fin _).val := by
  refine (Pipeline.Window.rect_emb_val win0_13 t y a rfl).trans ?_
  rw [index0_13]
  match a with
  | ⟨0, _⟩ =>
    show (bt t).val * 1 + (y 0).val = (bt t).val
    have : (y 0).val < 1 := (y 0).isLt
    omega
  | ⟨1, _⟩ => show 0 * 400 + (y 1).val = (y 1).val; omega
  | ⟨2, _⟩ => show 0 * 10000 + (y 2).val = (y 2).val; omega

theorem out0_13 (c : Dev nD) : (dat0 V c).arrAt 13 cfg0.N = kArr V c := by
  refine (dat0 V c).arrAt_eq_of_covers 13 (kArr V c) (by decide +kernel) fun t hf y => ?_
  rw [after0_13, ← pb_bt]
  have e : ((cfg0.win 13).blk t).view.emb y = ValueIdx.ix3 (bt t) (y 1) (y 2) := funext fun a => Fin.ext (emb0_13 t y a)
  refine Eq.trans ?_ (congrArg (kArr V c) e).symm
  refine congrArg (kblk V c (pb (bt t))) (funext fun a => ?_)
  match a with
  | ⟨0, _⟩ => exact Fin.ext (show (y 0).val = 0 by have : (y 0).val < 1 := (y 0).isLt; omega)
  | ⟨1, _⟩ => rfl
  | ⟨2, _⟩ => rfl

theorem emb0_15 (t : Fin cfg0.N) (y : S400x128.Idx) (a : Fin 2) :
    (((win0_15.rect t).emb y a : Fin _) : ℕ) = (ValueIdx.ix2 (gr (bt t) (y 0)) (y 1) a : Fin _).val := by
  refine (Pipeline.Window.rect_emb_val win0_15 t y a rfl).trans ?_
  rw [index0_15]
  match a with
  | ⟨0, _⟩ => rfl
  | ⟨1, _⟩ => show 0 * 128 + (y 1).val = (y 1).val; omega

theorem preArr_gr (c : Dev nD) (b : Fin 25) (y : S400x128.Idx) : preArr V c (ValueIdx.ix2 (gr b (y 0)) (y 1)) = preblk V c (pb b) (pb_cond b) y := by
  show preblk V c (pb (bk (gr b (y 0)))) _ (ValueIdx.ix2 (wi (gr b (y 0))) (y 1)) = _
  refine (congrFun (blk_congr V c (congrArg pb (bk_gr b (y 0))) _ (pb_cond b)).1 _).trans (congrArg _ (funext fun a => ?_))
  match a with
  | ⟨0, _⟩ => exact wi_gr _ _
  | ⟨1, _⟩ => rfl

theorem out0_15 (c : Dev nD) : (dat0 V c).arrAt 15 cfg0.N = preArr V c := by
  refine (dat0 V c).arrAt_eq_of_covers 15 (preArr V c) (by decide +kernel) fun t hf y => ?_
  rw [after0_15]
  have e : ((cfg0.win 15).blk t).view.emb y = ValueIdx.ix2 (gr (bt t) (y 0)) (y 1) := funext fun a => Fin.ext (emb0_15 t y a)
  refine Eq.trans ?_ (congrArg (preArr V c) e).symm
  refine Eq.trans ?_ (preArr_gr V c (bt t) y).symm
  exact congrFun (blk_congr V c (pb_bt t).symm _ _).1 y

theorem emb0_16 (t : Fin cfg0.N) (y : S400x128.Idx) (a : Fin 2) :
    (((win0_16.rect t).emb y a : Fin _) : ℕ) = (ValueIdx.ix2 (gr (bt t) (y 0)) (y 1) a : Fin _).val := by
  refine (Pipeline.Window.rect_emb_val win0_16 t y a rfl).trans ?_
  rw [index0_16]
  match a with
  | ⟨0, _⟩ => rfl
  | ⟨1, _⟩ => show 0 * 128 + (y 1).val = (y 1).val; omega

theorem dyArr_gr (c : Dev nD) (b : Fin 25) (y : S400x128.Idx) : dyArr V c (ValueIdx.ix2 (gr b (y 0)) (y 1)) = dyblk V c (pb b) (pb_cond b) y := by
  show dyblk V c (pb (bk (gr b (y 0)))) _ (ValueIdx.ix2 (wi (gr b (y 0))) (y 1)) = _
  refine (congrFun (blk_congr V c (congrArg pb (bk_gr b (y 0))) _ (pb_cond b)).2 _).trans (congrArg _ (funext fun a => ?_))
  match a with
  | ⟨0, _⟩ => exact wi_gr _ _
  | ⟨1, _⟩ => rfl

theorem out0_16 (c : Dev nD) : (dat0 V c).arrAt 16 cfg0.N = dyArr V c := by
  refine (dat0 V c).arrAt_eq_of_covers 16 (dyArr V c) (by decide +kernel) fun t hf y => ?_
  rw [after0_16]
  have e : ((cfg0.win 16).blk t).view.emb y = ValueIdx.ix2 (gr (bt t) (y 0)) (y 1) := funext fun a => Fin.ext (emb0_16 t y a)
  refine Eq.trans ?_ (congrArg (dyArr V c) e).symm
  refine Eq.trans ?_ (dyArr_gr V c (bt t) y).symm
  exact congrFun (blk_congr V c (pb_bt t).symm _ _).2 y

/-- The last point of the first pipeline. -/
def tl : Fin cfg0.N := ⟨26, by rw [show cfg0.N = 27 from N_0]; omega⟩

theorem out0_14 (c : Dev nD) : (dat0 V c).arrAt 14 cfg0.N = k0_pay4 (H1 V c) :=
  (dat0 V c).arrAt_eq_of_after_last 14 tl (by decide +kernel) (k0_pay4 (H1 V c)) fun j => by
    rw [after0_14]; rfl

theorem out0_17 (c : Dev nD) : (dat0 V c).arrAt 17 cfg0.N = k0_pay5 (H1 V c) :=
  (dat0 V c).arrAt_eq_of_after_last 17 tl (by decide +kernel) (k0_pay5 (H1 V c)) fun j => by
    rw [after0_17]; rfl

theorem out0_18 (c : Dev nD) : (dat0 V c).arrAt 18 cfg0.N = k0_pay6 (H1 V c) :=
  (dat0 V c).arrAt_eq_of_after_last 18 tl (by decide +kernel) (k0_pay6 (H1 V c)) fun j => by
    rw [after0_18]; rfl

/-! ## The second pipeline -/

/-- The point of the second pipeline that works on row block `b`. -/
def qb (b : Fin 25) : Fin cfg1.N := ⟨b.val, b.isLt.trans_eq N_1.symm⟩
def qt (t : Fin cfg1.N) : Fin 25 := ⟨t.val, t.isLt.trans_eq N_1⟩
theorem qb_qt (t : Fin cfg1.N) : qb (qt t) = t := rfl
theorem index1_0 : ∀ t : Fin cfg1.N, win1_0.index t = ![t.val, 0, 0] := by decide +kernel
theorem index1_2 : ∀ t : Fin cfg1.N, win1_2.index t = ![t.val, 0] := by decide +kernel
theorem index1_3 : ∀ t : Fin cfg1.N, win1_3.index t = ![t.val, 0] := by decide +kernel
theorem index1_11 : ∀ t : Fin cfg1.N, win1_11.index t = ![t.val, 0] := by decide +kernel
theorem index1_12 : ∀ t : Fin cfg1.N, win1_12.index t = ![t.val, 0] := by decide +kernel

theorem iblk1_0 (c : Dev nD) (b : Fin 25) (i : Fin 400) (k : Fin 10000) :
    iblk1 V c 0 (qb b) (ValueIdx.ix3 0 i k) = V c main_v53_0 (ValueIdx.ix3 b i k) :=
  congrArg (V c main_v53_0) (funext fun a => Fin.ext ((Pipeline.Window.rect_emb_val win1_0 (qb b) (ValueIdx.ix3 0 i k) a rfl).trans (by
    rw [index1_0]
    match a with
    | ⟨0, _⟩ => show b.val * 1 + 0 = b.val; omega
    | ⟨1, _⟩ => show 0 * 400 + i.val = i.val; omega
    | ⟨2, _⟩ => show 0 * 10000 + k.val = k.val; omega)))

theorem iblk1_2 (c : Dev nD) (b : Fin 25) (i : Fin 400) (j : Fin 128) :
    iblk1 V c 2 (qb b) (ValueIdx.ix2 i j) = V c main_v53_2 (ValueIdx.ix2 (gr b i) j) :=
  congrArg (V c main_v53_2) (funext fun a => Fin.ext ((Pipeline.Window.rect_emb_val win1_2 (qb b) (ValueIdx.ix2 i j) a rfl).trans (by
    rw [index1_2]
    match a with
    | ⟨0, _⟩ => rfl
    | ⟨1, _⟩ => show 0 * 128 + j.val = j.val; omega)))

theorem iblk1_3 (c : Dev nD) (b : Fin 25) (i : Fin 400) (j : Fin 128) :
    iblk1 V c 3 (qb b) (ValueIdx.ix2 i j) = V c main_v53_3 (ValueIdx.ix2 (gr b i) j) :=
  congrArg (V c main_v53_3) (funext fun a => Fin.ext ((Pipeline.Window.rect_emb_val win1_3 (qb b) (ValueIdx.ix2 i j) a rfl).trans (by
    rw [index1_3]
    match a with
    | ⟨0, _⟩ => rfl
    | ⟨1, _⟩ => show 0 * 128 + j.val = j.val; omega)))

/-- The blocks of the two results. -/
def logpB (c : Dev nD) (b : Fin 25) : Vec F S400x40 .f32 := logpv (iblk1 V c 0 (qb b)) (iblk1 V c 1 (qb b)) (iblk1 V c 2 (qb b)) (iblk1 V c 3 (qb b)) (iblk1 V c 4 (qb b)) (iblk1 V c 5 (qb b)) (iblk1 V c 6 (qb b)) (iblk1 V c 7 (qb b)) (iblk1 V c 8 (qb b)) (iblk1 V c 9 (qb b)) (iblk1 V c 10 (qb b))
def crossB (c : Dev nD) (b : Fin 25) : Vec F S400x128 .f32 := crossv (iblk1 V c 0 (qb b)) (iblk1 V c 1 (qb b)) (iblk1 V c 2 (qb b)) (iblk1 V c 3 (qb b)) (iblk1 V c 4 (qb b)) (iblk1 V c 5 (qb b)) (iblk1 V c 6 (qb b)) (iblk1 V c 7 (qb b)) (iblk1 V c 8 (qb b)) (iblk1 V c 9 (qb b)) (iblk1 V c 10 (qb b))
/-- The two results. -/
def logpArr (c : Dev nD) : Vec F S10000x40 .f32 := fun y => logpB V c (bk (y 0)) (ValueIdx.ix2 (wi (y 0)) (y 1))
def crossArr (c : Dev nD) : Vec F S10000x128 .f32 := fun y => crossB V c (bk (y 0)) (ValueIdx.ix2 (wi (y 0)) (y 1))

theorem emb1_11 (t : Fin cfg1.N) (y : S400x40.Idx) (a : Fin 2) :
    (((win1_11.rect t).emb y a : Fin _) : ℕ) = (ValueIdx.ix2 (gr (qt t) (y 0)) (y 1) a : Fin _).val := by
  refine (Pipeline.Window.rect_emb_val win1_11 t y a rfl).trans ?_
  rw [index1_11]
  match a with
  | ⟨0, _⟩ => rfl
  | ⟨1, _⟩ => show 0 * 40 + (y 1).val = (y 1).val; omega

theorem logpArr_gr (c : Dev nD) (b : Fin 25) (y : S400x40.Idx) : logpArr V c (ValueIdx.ix2 (gr b (y 0)) (y 1)) = logpB V c b y := by
  show logpB V c (bk (gr b (y 0))) (ValueIdx.ix2 (wi (gr b (y 0))) (y 1)) = _
  exact (congrFun (congrArg (logpB V c) (bk_gr b (y 0))) _).trans
    (congrArg (logpB V c b) (funext fun a => match a with | ⟨0, _⟩ => wi_gr _ _ | ⟨1, _⟩ => rfl))

theorem out1_11 (c : Dev nD) : (dat1 V c).arrAt 11 cfg1.N = logpArr V c := by
  refine (dat1 V c).arrAt_eq_of_covers 11 (logpArr V c) (by decide +kernel) fun t hf y => ?_
  rw [after1_11]
  have e : ((cfg1.win 11).blk t).view.emb y = ValueIdx.ix2 (gr (qt t) (y 0)) (y 1) := funext fun a => Fin.ext (emb1_11 t y a)
  refine Eq.trans ?_ (congrArg (logpArr V c) e).symm
  exact (logpArr_gr V c (qt t) y).symm

theorem emb1_12 (t : Fin cfg1.N) (y : S400x128.Idx) (a : Fin 2) :
    (((win1_12.rect t).emb y a : Fin _) : ℕ) = (ValueIdx.ix2 (gr (qt t) (y 0)) (y 1) a : Fin _).val := by
  refine (Pipeline.Window.rect_emb_val win1_12 t y a rfl).trans ?_
  rw [index1_12]
  match a with
  | ⟨0, _⟩ => rfl
  | ⟨1, _⟩ => show 0 * 128 + (y 1).val = (y 1).val; omega

theorem crossArr_gr (c : Dev nD) (b : Fin 25) (y : S400x128.Idx) : crossArr V c (ValueIdx.ix2 (gr b (y 0)) (y 1)) = crossB V c b y := by
  show crossB V c (bk (gr b (y 0))) (ValueIdx.ix2 (wi (gr b (y 0))) (y 1)) = _
  exact (congrFun (congrArg (crossB V c) (bk_gr b (y 0))) _).trans
    (congrArg (crossB V c b) (funext fun a => match a with | ⟨0, _⟩ => wi_gr _ _ | ⟨1, _⟩ => rfl))

theorem out1_12 (c : Dev nD) : (dat1 V c).arrAt 12 cfg1.N = crossArr V c := by
  refine (dat1 V c).arrAt_eq_of_covers 12 (crossArr V c) (by decide +kernel) fun t hf y => ?_
  rw [after1_12]
  have e : ((cfg1.win 12).blk t).view.emb y = ValueIdx.ix2 (gr (qt t) (y 0)) (y 1) := funext fun a => Fin.ext (emb1_12 t y a)
  refine Eq.trans ?_ (congrArg (crossArr V c) e).symm
  exact (crossArr_gr V c (qt t) y).symm

end Cert.KernelIdeal.Hand
-- ==== Proof.Vec.lean ====
module

public import Idealize.ShloMosaic.Lib.Pipeline.Value
public import Idealize.ShloMosaic.Lib.ValueIdx
public import Idealize.ShloMosaic.Lib.MatmulPlain
public import Idealize.ShloMosaic.PureOps.Ideal.Laws

@[expose] public section

/-! Reading arrays of extended reals whose elements are real numbers.

`IsR v f` says that the rank-2 array `v` holds the real number `f i j` at row `i` and column `j`. Each lemma below says what
one array operation does to such arrays, the kernel's operations and the host's alike. -/

noncomputable section

namespace Cert.Val

open Idealize.ShloMosaic Idealize.ShloMosaic.ValueIdx
open scoped BigOperators

/-- `v` holds, at every position, the real number `f` gives there. -/
def IsR {a b : ℕ} (v : FVec Ideal ⟨2, ![a, b]⟩ .f32) (f : Fin a → Fin b → ℝ) : Prop :=
  ∀ i j, v (ix2 i j) = ((f i j : ℝ) : EReal)

/-- The same for a vector. -/
def IsR1 {a : ℕ} (v : FVec Ideal ⟨1, ![a]⟩ .f32) (f : Fin a → ℝ) : Prop :=
  ∀ i, v (ix1 i) = ((f i : ℝ) : EReal)

/-- The real number a bit pattern denotes. -/
def cr (b : BitVec 32) : ℝ := (Ideal.ofBits .f32 b).toReal

/-- A bit pattern that denotes a real number. -/
def Fin32 (b : BitVec 32) : Prop := (FloatOps.ofBits (F := Ideal) .f32 b) = ((cr b : ℝ) : EReal)

theorem fin32_of {b : BitVec 32} {r : ℝ} (h : Ideal.ofBits .f32 b = ((r : ℝ) : EReal)) : Fin32 b := by
  unfold Fin32 cr
  show Ideal.ofBits .f32 b = _
  rw [h, EReal.toReal_coe]

theorem cr_of {b : BitVec 32} {r : ℝ} (h : Ideal.ofBits .f32 b = ((r : ℝ) : EReal)) : cr b = r := by
  unfold cr; rw [h, EReal.toReal_coe]

section Ops
variable {a b : ℕ} {u v : FVec Ideal ⟨2, ![a, b]⟩ .f32} {f g : Fin a → Fin b → ℝ}

theorem IsR.congr (hu : IsR u f) (h : ∀ i j, f i j = g i j) : IsR u g := fun i j => by rw [hu i j, h i j]

theorem IsR.add (hu : IsR u f) (hv : IsR v g) : IsR (addf u v) (fun i j => f i j + g i j) := fun i j => by
  rw [addf_apply, hu i j, hv i j]; exact (EReal.coe_add _ _).symm

theorem IsR.sub (hu : IsR u f) (hv : IsR v g) : IsR (subf u v) (fun i j => f i j - g i j) := fun i j => by
  rw [subf_apply, hu i j, hv i j]; exact (EReal.coe_sub _ _).symm

theorem IsR.mul (hu : IsR u f) (hv : IsR v g) : IsR (mulf u v) (fun i j => f i j * g i j) := fun i j => by
  rw [mulf_apply, hu i j, hv i j]; exact (EReal.coe_mul _ _).symm

theorem IsR.maxf (hu : IsR u f) (hv : IsR v g) : IsR (maximumf u v) (fun i j => max (f i j) (g i j)) := fun i j => by
  rw [maximumf_apply, hu i j, hv i j]; exact (EReal.coe_strictMono.monotone.map_max).symm

theorem IsR.minf (hu : IsR u f) (hv : IsR v g) : IsR (minimumf u v) (fun i j => min (f i j) (g i j)) := fun i j => by
  rw [minimumf_apply, hu i j, hv i j]; exact (EReal.coe_strictMono.monotone.map_min).symm

theorem IsR.div (hu : IsR u f) (hv : IsR v g) (h0 : ∀ i j, g i j ≠ 0) : IsR (divf u v) (fun i j => f i j / g i j) := fun i j => by
  rw [divf_apply, hu i j, hv i j]
  exact (Ideal.div_coe (h0 i j) _).trans (by rw [← EReal.coe_mul, mul_one_div])

theorem IsR.hdiv (hu : IsR u f) (hv : IsR v g) (h0 : ∀ i j, g i j ≠ 0) : IsR (Host.divf u v) (fun i j => f i j / g i j) :=
  IsR.div hu hv h0

theorem IsR.hneg (hu : IsR u f) : IsR (Host.negf u) (fun i j => - f i j) := fun i j => by
  show -(u (ix2 i j)) = _
  rw [hu i j]; exact (EReal.coe_neg _).symm

theorem IsR.habs (hu : IsR u f) : IsR (Host.absf u) (fun i j => |f i j|) := fun i j => by
  show Max.max (u (ix2 i j)) (-(u (ix2 i j))) = _
  rw [hu i j, ← EReal.coe_neg]; exact (EReal.coe_strictMono.monotone.map_max).symm

/-- Rounding to the nearest integer, ties to even, as a real number. -/
def rnd (r : ℝ) : ℝ := ((Ideal.roundHalfEven r : ℤ) : ℝ)

theorem IsR.round (hu : IsR u f) : IsR (roundeven u) (fun i j => rnd (f i j)) := fun i j => by
  show Ideal.liftRound Ideal.roundHalfEven (u (ix2 i j)) = _
  rw [hu i j]; rfl

theorem IsR.hround (hu : IsR u f) : IsR (Host.roundeven u) (fun i j => rnd (f i j)) := fun i j => by
  show Ideal.liftRound Ideal.roundHalfEven (u (ix2 i j)) = _
  rw [hu i j]; rfl

theorem IsR.hsqrt (hu : IsR u f) (h0 : ∀ i j, 0 < f i j) : IsR (Host.sqrt u) (fun i j => Real.sqrt (f i j)) := fun i j => by
  show Ideal.sqrt (u (ix2 i j)) = _
  rw [hu i j, Ideal.sqrt_coe, if_neg (h0 i j).not_gt]

theorem IsR.rsqrt (hu : IsR u f) (h0 : ∀ i j, 0 < f i j) : IsR (rsqrt u) (fun i j => (Real.sqrt (f i j))⁻¹) := fun i j => by
  show Ideal.rsqrt (u (ix2 i j)) = _
  rw [hu i j, Ideal.rsqrt_coe, if_neg (h0 i j).not_gt, if_neg (h0 i j).ne']

theorem IsR.cst {c : BitVec 32} (h : Fin32 c) :
    IsR (broadcast (⟨2, ![a, b]⟩ : Shape) (Scalar.ofBits (F := Ideal) .f32 c)) (fun _ _ => cr c) := fun _ _ => h

theorem IsR.hcst {c : BitVec 32} (h : Fin32 c) (hb) :
    IsR (broadcastInDim (⟨2, ![a, b]⟩ : Shape) ![] hb (constant (F := Ideal) ⟨0, ![]⟩ .f32 c)) (fun _ _ => cr c) := fun _ _ => h

theorem IsR.castSelf (hu : IsR u f) (h) : IsR (shapeCast (⟨2, ![a, b]⟩ : Shape) u h) f := by
  rw [shapeCast_self]; exact hu

end Ops

section Mat
variable {M K N : ℕ}

theorem coe_sum {ι : Type} (s : Finset ι) (f : ι → ℝ) : ((∑ i ∈ s, f i : ℝ) : EReal) = ∑ i ∈ s, ((f i : ℝ) : EReal) := by
  classical
  induction s using Finset.induction_on with
  | empty => simp
  | insert x s hx ih => rw [Finset.sum_insert hx, Finset.sum_insert hx, EReal.coe_add, ih]

/-- A matrix product into zeros. -/
theorem mm_apply (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (i : Fin M) (j : Fin N) :
    matmul (F := Ideal) d none l r (constant ⟨2, ![M, N]⟩ .f32 0x00000000#32) (ix2 i j) = ∑ k : Fin K, l (ix2 i k) * r (ix2 k j) := by
  subst hd
  show FloatOps.matmul (DotDims.plain M K N) none l r _ (ix2 i j) = _
  rw [Ideal.matmul_plain_apply, constant_apply, Ideal.ofBits_zero_f32, zero_add]

theorem hmm_apply (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (i : Fin M) (j : Fin N) :
    Host.dotGeneral (F := Ideal) d none l r (ix2 i j) = ∑ k : Fin K, l (ix2 i k) * r (ix2 k j) := by
  rw [← mm_apply d hd l r i j]
  show FloatOps.dotGeneral d none .single l r (ix2 i j) = FloatOps.matmul d none l r _ (ix2 i j)
  rw [Ideal.dotGeneral_apply, Ideal.matmul_apply, constant_apply,
    Ideal.ofBits_zero_f32, zero_add]

variable {l : FVec Ideal ⟨2, ![M, K]⟩ .f32} {r : FVec Ideal ⟨2, ![K, N]⟩ .f32} {f : Fin M → Fin K → ℝ} {g : Fin K → Fin N → ℝ}

theorem IsR.mm (d : DotDims ⟨2, ![M, K]⟩ ⟨2, ![K, N]⟩ ⟨2, ![M, N]⟩) (hd : d = DotDims.plain M K N) (hl : IsR l f) (hr : IsR r g) :
    IsR (matmul (F := Ideal) d none l r (constant ⟨2, ![M, N]⟩ .f32 0x00000000#32)) (fun i j => ∑ k, f i k * g k j) := fun i j => by
  rw [mm_apply d hd, coe_sum]
  exact Finset.sum_congr rfl fun k _ => by rw [hl i k, hr k j, EReal.coe_mul]

theorem IsR.hmm (d : DotDims ⟨2, ![M, K]⟩ ⟨2, ![K, N]⟩ ⟨2, ![M, N]⟩) (hd : d = DotDims.plain M K N) (hl : IsR l f) (hr : IsR r g) :
    IsR (Host.dotGeneral (F := Ideal) d none l r) (fun i j => ∑ k, f i k * g k j) := fun i j => by
  rw [hmm_apply d hd, coe_sum]
  exact Finset.sum_congr rfl fun k _ => by rw [hl i k, hr k j, EReal.coe_mul]

end Mat

section Layout
variable {a b : ℕ}

/-- A single row repeated. -/
theorem row_apply {α : Type} (x : (⟨2, ![1, b]⟩ : Shape).Idx → α) (h) (i : Fin a) (j : Fin b) :
    broadcastTo (⟨2, ![a, b]⟩ : Shape) x h (ix2 i j) = x (ix2 0 j) := by
  refine broadcastTo_apply x h (ix2 i j) (ix2 0 j) fun d => ?_
  match d with
  | ⟨0, _⟩ => rfl
  | ⟨1, _⟩ =>
    show j.val = if b = 1 then 0 else j.val
    split
    · have := j.isLt; omega
    · rfl

/-- A single column repeated. -/
theorem col_apply {α : Type} (x : (⟨2, ![a, 1]⟩ : Shape).Idx → α) (h) (i : Fin a) (j : Fin b) :
    broadcastTo (⟨2, ![a, b]⟩ : Shape) x h (ix2 i j) = x (ix2 i 0) := by
  refine broadcastTo_apply x h (ix2 i j) (ix2 i 0) fun d => ?_
  match d with
  | ⟨0, _⟩ =>
    show i.val = if a = 1 then 0 else i.val
    split
    · have := i.isLt; omega
    · rfl
  | ⟨1, _⟩ => rfl

theorem hrow_apply {α : Type} (x : (⟨2, ![1, b]⟩ : Shape).Idx → α) (h) (i : Fin a) (j : Fin b) :
    broadcastInDim (⟨2, ![a, b]⟩ : Shape) ![0, 1] h x (ix2 i j) = x (ix2 0 j) := by
  refine broadcastInDim_apply _ h x (ix2 i j) (ix2 0 j) fun d => ?_
  match d with
  | ⟨0, _⟩ => rfl
  | ⟨1, _⟩ =>
    show j.val = if b = 1 then 0 else j.val
    split
    · have := j.isLt; omega
    · rfl

theorem hcol_apply {α : Type} (x : (⟨2, ![a, 1]⟩ : Shape).Idx → α) (h) (i : Fin a) (j : Fin b) :
    broadcastInDim (⟨2, ![a, b]⟩ : Shape) ![0, 1] h x (ix2 i j) = x (ix2 i 0) := by
  refine broadcastInDim_apply _ h x (ix2 i j) (ix2 i 0) fun d => ?_
  match d with
  | ⟨0, _⟩ =>
    show i.val = if a = 1 then 0 else i.val
    split
    · have := i.isLt; omega
    · rfl
  | ⟨1, _⟩ => rfl

/-- A vector laid out as a row. -/
theorem hvecRow_apply {α : Type} (x : (⟨1, ![b]⟩ : Shape).Idx → α) (h) (i : Fin 1) (j : Fin b) :
    broadcastInDim (⟨2, ![1, b]⟩ : Shape) ![1] h x (ix2 i j) = x (ix1 j) := by
  refine broadcastInDim_apply _ h x (ix2 i j) (ix1 j) fun d => ?_
  match d with
  | ⟨0, _⟩ =>
    show j.val = if b = 1 then 0 else j.val
    split
    · have := j.isLt; omega
    · rfl

/-- A vector laid out as a column. -/
theorem hvecCol_apply {α : Type} (x : (⟨1, ![a]⟩ : Shape).Idx → α) (h) (i : Fin a) (j : Fin 1) :
    broadcastInDim (⟨2, ![a, 1]⟩ : Shape) ![0] h x (ix2 i j) = x (ix1 i) := by
  refine broadcastInDim_apply _ h x (ix2 i j) (ix1 i) fun d => ?_
  match d with
  | ⟨0, _⟩ =>
    show i.val = if a = 1 then 0 else i.val
    split
    · have := i.isLt; omega
    · rfl

theorem vecRow_apply {α : Type} (x : (⟨1, ![b]⟩ : Shape).Idx → α) (h) (i : Fin 1) (j : Fin b) :
    shapeCast (⟨2, ![1, b]⟩ : Shape) x h (ix2 i j) = x (ix1 j) :=
  shapeCast_apply x h _ _ (by
    rw [Shape.rowMajor_val_one, Shape.rowMajor_val_two]
    show j.val = i.val * b + j.val
    have := i.isLt
    simp [show i.val = 0 by omega])

theorem vecCol_apply {α : Type} (x : (⟨1, ![a]⟩ : Shape).Idx → α) (h) (i : Fin a) (j : Fin 1) :
    shapeCast (⟨2, ![a, 1]⟩ : Shape) x h (ix2 i j) = x (ix1 i) :=
  shapeCast_apply x h _ _ (by
    rw [Shape.rowMajor_val_one, Shape.rowMajor_val_two]
    show i.val = i.val * 1 + j.val
    have := j.isLt
    omega)

variable {f : Fin 1 → Fin b → ℝ} {g : Fin a → Fin 1 → ℝ}

theorem IsR.row {x} (hx : IsR x f) (h) : IsR (broadcastTo (⟨2, ![a, b]⟩ : Shape) x h) (fun _ j => f 0 j) :=
  fun i j => (row_apply x h i j).trans (hx 0 j)
theorem IsR.hrow {x} (hx : IsR x f) (h) : IsR (broadcastInDim (⟨2, ![a, b]⟩ : Shape) ![0, 1] h x) (fun _ j => f 0 j) :=
  fun i j => (hrow_apply x h i j).trans (hx 0 j)
theorem IsR.col {x} (hx : IsR x g) (h) : IsR (broadcastTo (⟨2, ![a, b]⟩ : Shape) x h) (fun i _ => g i 0) :=
  fun i j => (col_apply x h i j).trans (hx i 0)
theorem IsR.hcol {x} (hx : IsR x g) (h) : IsR (broadcastInDim (⟨2, ![a, b]⟩ : Shape) ![0, 1] h x) (fun i _ => g i 0) :=
  fun i j => (hcol_apply x h i j).trans (hx i 0)
theorem IsR1.hvecRow {x} {f : Fin b → ℝ} (hx : IsR1 x f) (h) : IsR (broadcastInDim (⟨2, ![1, b]⟩ : Shape) ![1] h x) (fun _ j => f j) :=
  fun i j => (hvecRow_apply x h i j).trans (hx j)
theorem IsR1.hvecCol {x} {f : Fin a → ℝ} (hx : IsR1 x f) (h) : IsR (broadcastInDim (⟨2, ![a, 1]⟩ : Shape) ![0] h x) (fun i _ => f i) :=
  fun i j => (hvecCol_apply x h i j).trans (hx i)
theorem IsR1.vecRow {x} {f : Fin b → ℝ} (hx : IsR1 x f) (h) : IsR (shapeCast (⟨2, ![1, b]⟩ : Shape) x h) (fun _ j => f j) :=
  fun i j => (vecRow_apply x h i j).trans (hx j)
theorem IsR1.vecCol {x} {f : Fin a → ℝ} (hx : IsR1 x f) (h) : IsR (shapeCast (⟨2, ![a, 1]⟩ : Shape) x h) (fun i _ => f i) :=
  fun i j => (vecCol_apply x h i j).trans (hx i)

end Layout

section Red
variable {a b : ℕ}

theorem lift_row (h : (⟨2, ![a, b]⟩ : Shape).Reduces [1] ⟨1, ![a]⟩) (i : Fin a) (k : Fin b) : h.lift (ix1 i) k = ix2 i k := by
  funext d; match d with
  | ⟨0, _⟩ => rfl
  | ⟨1, _⟩ => rfl

theorem lift_col (h : (⟨2, ![a, b]⟩ : Shape).Reduces [0] ⟨1, ![b]⟩) (j : Fin b) (k : Fin a) : h.lift (ix1 j) k = ix2 k j := by
  funext d; match d with
  | ⟨0, _⟩ => rfl
  | ⟨1, _⟩ => rfl

theorem rowSum_apply (x : FVec Ideal ⟨2, ![a, b]⟩ .f32) (acc) (h : (⟨2, ![a, b]⟩ : Shape).Reduces [1] ⟨1, ![a]⟩) (hφ) (hacc) (i : Fin a) :
    multiReduction (F := Ideal) .add [1] ⟨1, ![a]⟩ x acc h hφ hacc (ix1 i) = ∑ k : Fin b, x (ix2 i k) := by
  rw [Ideal.multiReduction_add_single]
  exact Finset.sum_congr rfl fun k _ => congrArg x (lift_row h i k)

theorem colSum_apply (x : FVec Ideal ⟨2, ![a, b]⟩ .f32) (acc) (h : (⟨2, ![a, b]⟩ : Shape).Reduces [0] ⟨1, ![b]⟩) (hφ) (hacc) (j : Fin b) :
    multiReduction (F := Ideal) .add [0] ⟨1, ![b]⟩ x acc h hφ hacc (ix1 j) = ∑ k : Fin a, x (ix2 k j) := by
  rw [Ideal.multiReduction_add_single]
  exact Finset.sum_congr rfl fun k _ => congrArg x (lift_col h j k)

theorem rowMax_apply (x : FVec Ideal ⟨2, ![a, b]⟩ .f32) (acc) (h : (⟨2, ![a, b]⟩ : Shape).Reduces [1] ⟨1, ![a]⟩) (hφ) (hacc) (i : Fin a) :
    multiReduction (F := Ideal) .maximumf [1] ⟨1, ![a]⟩ x acc h hφ hacc (ix1 i)
      = (Finset.univ : Finset (Fin b)).fold max (FloatOps.ofBits (F := Ideal) .f32 acc) (fun k => x (ix2 i k)) := by
  rw [Ideal.multiReduction_maximumf_single]
  exact congrArg (Finset.fold max _ · Finset.univ) (funext fun k => congrArg x (lift_row h i k))

theorem colMax_apply (x : FVec Ideal ⟨2, ![a, b]⟩ .f32) (acc) (h : (⟨2, ![a, b]⟩ : Shape).Reduces [0] ⟨1, ![b]⟩) (hφ) (hacc) (j : Fin b) :
    multiReduction (F := Ideal) .maximumf [0] ⟨1, ![b]⟩ x acc h hφ hacc (ix1 j)
      = (Finset.univ : Finset (Fin a)).fold max (FloatOps.ofBits (F := Ideal) .f32 acc) (fun k => x (ix2 k j)) := by
  rw [Ideal.multiReduction_maximumf_single]
  exact congrArg (Finset.fold max _ · Finset.univ) (funext fun k => congrArg x (lift_col h j k))

theorem hrowSum_apply (x : FVec Ideal ⟨2, ![a, b]⟩ .f32) (h : (⟨2, ![a, b]⟩ : Shape).Reduces [1] ⟨1, ![a]⟩) (h') (hu) (i : Fin a) :
    Host.reduceAdd (F := Ideal) (axes := [1]) (t := ⟨1, ![a]⟩) x (constant ⟨0, ![]⟩ .f32 0x00000000#32) h' hu (ix1 i) = ∑ k : Fin b, x (ix2 i k) := by
  refine (Ideal.hostReduceAdd_single h' h x _ (ix1 i)).trans ?_
  rw [constant_apply, Ideal.ofBits_zero_f32, zero_add]
  exact Finset.sum_congr rfl fun k _ => congrArg x (lift_row h i k)

theorem hcolSum_apply (x : FVec Ideal ⟨2, ![a, b]⟩ .f32) (h : (⟨2, ![a, b]⟩ : Shape).Reduces [0] ⟨1, ![b]⟩) (h') (hu) (j : Fin b) :
    Host.reduceAdd (F := Ideal) (axes := [0]) (t := ⟨1, ![b]⟩) x (constant ⟨0, ![]⟩ .f32 0x00000000#32) h' hu (ix1 j) = ∑ k : Fin a, x (ix2 k j) := by
  refine (Ideal.hostReduceAdd_single h' h x _ (ix1 j)).trans ?_
  rw [constant_apply, Ideal.ofBits_zero_f32, zero_add]
  exact Finset.sum_congr rfl fun k _ => congrArg x (lift_col h j k)

theorem hrowMax_apply (x : FVec Ideal ⟨2, ![a, b]⟩ .f32) (acc) (h : (⟨2, ![a, b]⟩ : Shape).Reduces [1] ⟨1, ![a]⟩) (h') (hu) (i : Fin a) :
    Host.reduce (axes := [1]) (t := ⟨1, ![a]⟩) (FloatOps.maximumf (F := Ideal) (φ := .f32)) x (constant (F := Ideal) ⟨0, ![]⟩ .f32 acc) h' hu (ix1 i)
      = (Finset.univ : Finset (Fin b)).fold max (FloatOps.ofBits (F := Ideal) .f32 acc) (fun k => x (ix2 i k)) := by
  refine (Host.reduce_eq_fold_single (max : EReal → EReal → EReal) x _ h' h hu (ix1 i)).trans ?_
  exact congrArg (Finset.fold max _ · Finset.univ) (funext fun k => congrArg x (lift_row h i k))

theorem hcolMax_apply (x : FVec Ideal ⟨2, ![a, b]⟩ .f32) (acc) (h : (⟨2, ![a, b]⟩ : Shape).Reduces [0] ⟨1, ![b]⟩) (h') (hu) (j : Fin b) :
    Host.reduce (axes := [0]) (t := ⟨1, ![b]⟩) (FloatOps.maximumf (F := Ideal) (φ := .f32)) x (constant (F := Ideal) ⟨0, ![]⟩ .f32 acc) h' hu (ix1 j)
      = (Finset.univ : Finset (Fin a)).fold max (FloatOps.ofBits (F := Ideal) .f32 acc) (fun k => x (ix2 k j)) := by
  refine (Host.reduce_eq_fold_single (max : EReal → EReal → EReal) x _ h' h hu (ix1 j)).trans ?_
  exact congrArg (Finset.fold max _ · Finset.univ) (funext fun k => congrArg x (lift_col h j k))

variable {x : FVec Ideal ⟨2, ![a, b]⟩ .f32} {f : Fin a → Fin b → ℝ}

theorem IsR.rowSum (hx : IsR x f) (acc) (h) (hφ) (hacc) : IsR1 (multiReduction (F := Ideal) .add [1] ⟨1, ![a]⟩ x acc h hφ hacc) (fun i => ∑ k, f i k) :=
  fun i => by rw [rowSum_apply, coe_sum]; exact Finset.sum_congr rfl fun k _ => hx i k
theorem IsR.colSum (hx : IsR x f) (acc) (h) (hφ) (hacc) : IsR1 (multiReduction (F := Ideal) .add [0] ⟨1, ![b]⟩ x acc h hφ hacc) (fun j => ∑ k, f k j) :=
  fun i => by rw [colSum_apply, coe_sum]; exact Finset.sum_congr rfl fun k _ => hx k i
theorem IsR.hrowSum (hx : IsR x f) (h : (⟨2, ![a, b]⟩ : Shape).Reduces [1] ⟨1, ![a]⟩) (h') (hu) :
    IsR1 (Host.reduceAdd (F := Ideal) (axes := [1]) (t := ⟨1, ![a]⟩) x (constant ⟨0, ![]⟩ .f32 0x00000000#32) h' hu) (fun i => ∑ k, f i k) :=
  fun i => by rw [hrowSum_apply x h, coe_sum]; exact Finset.sum_congr rfl fun k _ => hx i k
theorem IsR.hcolSum (hx : IsR x f) (h : (⟨2, ![a, b]⟩ : Shape).Reduces [0] ⟨1, ![b]⟩) (h') (hu) :
    IsR1 (Host.reduceAdd (F := Ideal) (axes := [0]) (t := ⟨1, ![b]⟩) x (constant ⟨0, ![]⟩ .f32 0x00000000#32) h' hu) (fun j => ∑ k, f k j) :=
  fun i => by rw [hcolSum_apply x h, coe_sum]; exact Finset.sum_congr rfl fun k _ => hx k i

end Red

end Cert.Val
-- ==== Proof.Spec.lean ====
module

public import proofs.«01_k».proof.Proof.Vec

@[expose] public section

/-! The two layers, the side branch and the normalisation, as functions of real numbers, and the laws of real numbers under
which the kernel's arrangement of them equals the reference's. -/

noncomputable section

namespace Cert.Val

open Idealize.ShloMosaic Idealize.ShloMosaic.ValueIdx
open scoped BigOperators

/-! ## Constants -/

theorem fin32 (b : BitVec 32) (h : (b.extractLsb' 23 8).toNat ≠ 255) : Fin32 b := by
  unfold Fin32 cr
  show Ideal.ieee 8 23 b = ((Ideal.ieee 8 23 b).toReal : EReal)
  simp only [Ideal.ieee]
  rw [if_neg (by simpa using h)]
  split <;> rw [EReal.toReal_coe]

theorem cr_zero : cr 0x00000000#32 = 0 := by unfold cr; rw [Ideal.ofBits_zero_f32]; rfl
theorem cr_127 : cr 0x42FE0000#32 = 127 := by
  refine cr_of ?_
  simp [Ideal.ofBits, Ideal.ieee]; norm_num [← EReal.coe_mul]
theorem cr_254 : cr 0x437E0000#32 = 254 := by
  refine cr_of ?_
  simp [Ideal.ofBits, Ideal.ieee]; norm_num [← EReal.coe_mul]
theorem cr_128 : cr 0x43000000#32 = 128 := by
  refine cr_of ?_
  simp [Ideal.ofBits, Ideal.ieee]; norm_num [← EReal.coe_mul]
theorem cr_neg128 : cr 0xC3000000#32 = -128 := by
  refine cr_of ?_
  simp [Ideal.ofBits, Ideal.ieee]; norm_num [← EReal.coe_mul]
theorem cr_half : cr 0x3F000000#32 = 1 / 2 := by
  refine cr_of ?_
  simp [Ideal.ofBits, Ideal.ieee]; norm_num [← EReal.coe_mul]
theorem cr_bound : cr 0x4B800000#32 = 16777216 := by
  refine cr_of ?_
  simp [Ideal.ofBits, Ideal.ieee]; norm_num [← EReal.coe_mul]
theorem cr_tiny : 0 < cr 0x1E3CE508#32 := by
  unfold cr
  simp [Ideal.ofBits, Ideal.ieee]
  rw [← EReal.coe_mul, EReal.toReal_coe]; positivity
theorem cr_eps : 0 < cr 0x358637BD#32 := by
  unfold cr
  simp [Ideal.ofBits, Ideal.ieee]
  rw [← EReal.coe_mul, EReal.toReal_coe]; positivity
theorem inf_bits : Ideal.ofBits .f32 0x7F800000#32 = ⊤ := by
  simp [Ideal.ofBits, Ideal.ieee]

theorem ninf_bits : Ideal.ofBits .f32 0xFF800000#32 = ⊥ := by
  simp [Ideal.ofBits, Ideal.ieee]

/-! ## Arrays of real numbers -/

/-- The first and the second half of 256 rows. -/
def lo (k : Fin 128) : Fin 256 := ⟨k.val, by omega⟩
def up (k : Fin 128) : Fin 256 := ⟨128 + k.val, by omega⟩

/-- Two rows of 128 laid end to end. -/
def cat (f g : Fin 128 → ℝ) : Fin 256 → ℝ := fun k =>
  if h : k.val < 128 then f ⟨k.val, h⟩ else g ⟨k.val - 128, by have := k.isLt; omega⟩

theorem cat_lo (f g : Fin 128 → ℝ) (k : Fin 128) : cat f g (lo k) = f k := by
  unfold cat lo; rw [dif_pos k.isLt]
theorem cat_up (f g : Fin 128 → ℝ) (k : Fin 128) : cat f g (up k) = g k := by
  unfold cat up
  rw [dif_neg (by simp)]
  exact congrArg g (Fin.ext (by simp))

/-- A sum over 256 is the sum over the first half plus the sum over the second. -/
theorem sum_halves (f : Fin 256 → ℝ) : ∑ k, f k = ∑ k : Fin 128, f (lo k) + ∑ k : Fin 128, f (up k) := by
  rw [show (∑ k, f k) = ∑ k : Fin (128 + 128), f k from rfl, Fin.sum_univ_add]
  rfl

/-- One where the two numbers agree. -/
def eye (k j : Fin 128) : ℝ := if k = j then 1 else 0

theorem sum_eye (f : Fin 128 → ℝ) (d : ℝ) (j : Fin 128) : ∑ k, f k * (d * eye k j) = d * f j := by
  unfold eye
  rw [Finset.sum_eq_single j]
  · rw [if_pos rfl]; ring
  · intro k _ hk; rw [if_neg hk]; ring
  · intro h; exact absurd (Finset.mem_univ j) h

/-- The scalar coefficients folded into the weights' diagonals. -/
theorem conv_fold (hi h : Fin 128 → ℝ) (w : Fin 256 → Fin 128 → ℝ) (t d e : ℝ) (j : Fin 128) :
    ∑ k, hi k * (t * w (lo k) j + d * eye k j) + ∑ k, h k * (t * w (up k) j + e * eye k j)
      = t * (∑ k, cat hi h k * w k j) + d * hi j + e * h j := by
  rw [sum_halves]
  simp only [cat_lo, cat_up, mul_add, Finset.sum_add_distrib, sum_eye, Finset.mul_sum]
  rw [show (∑ k, hi k * (t * w (lo k) j)) = ∑ k, t * (hi k * w (lo k) j) from Finset.sum_congr rfl fun k _ => by ring,
    show (∑ k, h k * (t * w (up k) j)) = ∑ k, t * (h k * w (up k) j) from Finset.sum_congr rfl fun k _ => by ring]
  ring

/-- A row and its negative against the two halves is the row against their difference. -/
theorem neg_fold (h : Fin 128 → ℝ) (w : Fin 256 → Fin 128 → ℝ) (j : Fin 128) :
    ∑ k, h k * (w (lo k) j - w (up k) j) = ∑ k, cat h (fun k => - h k) k * w k j := by
  rw [sum_halves]
  simp only [cat_lo, cat_up]
  rw [← Finset.sum_add_distrib]
  exact Finset.sum_congr rfl fun k _ => by ring

/-- The product of the integers scaled by both steps is the product of the scaled integers. -/
theorem scale_fold {n : ℕ} (k q : Fin n → ℝ) (mx s : ℝ) :
    (∑ i, k i * q i) * (mx * (1 / 32258)) + s = (∑ i, k i / 254 * (q i * (mx / 127))) + s := by
  congr 1
  rw [Finset.sum_mul]
  exact Finset.sum_congr rfl fun i _ => by ring

/-! ## The quantiser -/

/-- An integer held to the range of a signed byte. -/
def clipZ (z : ℤ) : ℤ := max (-128) (min 127 z)

theorem clipZ_lo (z : ℤ) : -128 ≤ clipZ z := le_max_left _ _
theorem clipZ_hi (z : ℤ) : clipZ z ≤ 127 := by unfold clipZ; omega

/-- The real number rounded and held to the range of a signed byte. -/
def qz (r : ℝ) : ℤ := clipZ (Ideal.roundHalfEven r)

theorem clip_rnd (r : ℝ) : min (cr 0x42FE0000#32) (max (cr 0xC3000000#32) (rnd r)) = ((qz r : ℤ) : ℝ) := by
  rw [cr_127, cr_neg128]
  unfold qz clipZ rnd
  push_cast
  rw [max_min_distrib_left, max_eq_right (show (-128 : ℝ) ≤ 127 by norm_num)]

theorem toIntClamped_coe_int (a b z : ℤ) : Ideal.toIntClamped a b (((z : ℤ) : ℝ) : EReal) = max a (min b z) := by
  rw [Ideal.toIntClamped_coe, Int.floor_intCast, Int.ceil_intCast, ite_self]

/-- The kernel's conversion to a signed byte of a rounded real number. -/
theorem fptosi_rnd (r : ℝ) : (Ideal.fptosi 8 ((rnd r : ℝ) : EReal)).toInt = qz r := by
  unfold Ideal.fptosi rnd
  rw [show Ideal.toIntClamped (-(2 ^ (8 - 1) : ℕ)) ((2 ^ (8 - 1) : ℕ) - 1) (((Ideal.roundHalfEven r : ℤ) : ℝ) : EReal) = qz r by
    rw [toIntClamped_coe_int]; rfl]
  have h1 := clipZ_lo (Ideal.roundHalfEven r)
  have h2 := clipZ_hi (Ideal.roundHalfEven r)
  rw [BitVec.toInt_ofInt]
  show Int.bmod (qz r) 256 = qz r
  change -128 ≤ qz r at h1
  change qz r ≤ 127 at h2
  rw [Int.bmod_def]
  omega

/-! ## Columns' maxima -/

/-- The maximum of a column, but at least the smallest step. -/
def mxR {a b : ℕ} (f : Fin a → Fin b → ℝ) (j : Fin b) : ℝ :=
  (max ((Finset.univ : Finset (Fin a)).fold max (Ideal.ofBits .f32 0xFF800000#32) (fun i => ((f i j : ℝ) : EReal)))
    ((cr 0x1E3CE508#32 : ℝ) : EReal)).toReal

theorem coe_mxR {a b : ℕ} (f : Fin a → Fin b → ℝ) (j : Fin b) :
    ((mxR f j : ℝ) : EReal) = max ((Finset.univ : Finset (Fin a)).fold max (Ideal.ofBits .f32 0xFF800000#32) (fun i => ((f i j : ℝ) : EReal)))
      ((cr 0x1E3CE508#32 : ℝ) : EReal) := by
  refine EReal.coe_toReal (ne_of_lt (max_lt ?_ (EReal.coe_lt_top _))) (ne_of_gt (lt_of_lt_of_le (EReal.bot_lt_coe _) (le_max_right _ _)))
  rw [Finset.fold_max_lt, ninf_bits]
  exact ⟨bot_lt_top, fun i _ => EReal.coe_lt_top _⟩

theorem mxR_pos {a b : ℕ} (f : Fin a → Fin b → ℝ) (j : Fin b) : 0 < mxR f j := by
  have h : ((cr 0x1E3CE508#32 : ℝ) : EReal) ≤ ((mxR f j : ℝ) : EReal) := by rw [coe_mxR]; exact le_max_right _ _
  exact lt_of_lt_of_le cr_tiny (EReal.coe_le_coe_iff.mp h)

theorem IsR.mx {a b : ℕ} {x : FVec Ideal ⟨2, ![a, b]⟩ .f32} {f : Fin a → Fin b → ℝ} (hx : IsR x f) (h) (hφ) (hacc) (hc) :
    IsR (maximumf (shapeCast (⟨2, ![1, b]⟩ : Shape) (multiReduction (F := Ideal) .maximumf [0] ⟨1, ![b]⟩ x 0xFF800000#32 h hφ hacc) hc)
      (broadcast (⟨2, ![1, b]⟩ : Shape) (Scalar.ofBits (F := Ideal) .f32 0x1E3CE508#32))) (fun _ j => mxR f j) := fun i j => by
  rw [maximumf_apply, vecRow_apply, colMax_apply, coe_mxR]
  refine congrArg₂ max (congrArg (Finset.fold max _ · Finset.univ) (funext fun k => hx k j)) ?_
  exact fin32 0x1E3CE508#32 (by decide)

theorem IsR.hmx {a b : ℕ} {x : FVec Ideal ⟨2, ![a, b]⟩ .f32} {f : Fin a → Fin b → ℝ} (hx : IsR x f)
    (h : (⟨2, ![a, b]⟩ : Shape).Reduces [0] ⟨1, ![b]⟩) (h') (hu) (hb) (hb') :
    IsR (maximumf (broadcastInDim (⟨2, ![1, b]⟩ : Shape) ![1] hb
        (Host.reduce (axes := [0]) (t := ⟨1, ![b]⟩) (FloatOps.maximumf (F := Ideal) (φ := .f32)) x (constant (F := Ideal) ⟨0, ![]⟩ .f32 0xFF800000#32) h' hu))
      (broadcastInDim (⟨2, ![1, b]⟩ : Shape) ![] hb' (constant (F := Ideal) ⟨0, ![]⟩ .f32 0x1E3CE508#32))) (fun _ j => mxR f j) := fun i j => by
  rw [maximumf_apply, hvecRow_apply, hcolMax_apply x _ h, coe_mxR]
  refine congrArg₂ max (congrArg (Finset.fold max _ · Finset.univ) (funext fun k => hx k j)) ?_
  exact fin32 0x1E3CE508#32 (by decide)

/-! ## The layers -/

section Layers

/-- A positive part, the zero written as the bit pattern both programs have. -/
def relu (r : ℝ) : ℝ := max r (cr 0x00000000#32)

/-- The first product: a row per node. -/
def h0 (X : Fin 10000 → Fin 128 → ℝ) (W : Fin 128 → Fin 128 → ℝ) (B : Fin 128 → ℝ) : Fin 10000 → Fin 128 → ℝ :=
  fun i j => relu ((∑ k, X i k * W k j) + B j)

/-- The initial-residual convolution of one layer. -/
def conv (t d e : ℝ) (hi h : Fin 10000 → Fin 128 → ℝ) (w : Fin 256 → Fin 128 → ℝ) : Fin 10000 → Fin 128 → ℝ :=
  fun i j => t * (∑ k, cat (hi i) (h i) k * w k j) + d * hi i j + e * h i j

def h1 (A : Fin 10000 → Fin 10000 → ℝ) (h : Fin 10000 → Fin 128 → ℝ) (w : Fin 256 → Fin 128 → ℝ) : Fin 10000 → Fin 128 → ℝ :=
  fun i j => relu (conv (cr 0x3ECF991F#32) (cr 0x3F08FB18#32) (cr 0x3F879C2C#32) (fun i j => ∑ k, A i k * h k j) h w i j)

/-- The adjacency's deviation from one half, on the grid of signed bytes. -/
def kz (A : Fin 10000 → Fin 10000 → ℝ) (i k : Fin 10000) : ℤ := qz (cr 0x437E0000#32 * A i k - cr 0x42FE0000#32)

/-- A column on the grid of signed bytes. -/
def qc (h : Fin 10000 → Fin 128 → ℝ) (i : Fin 10000) (j : Fin 128) : ℤ := qz (h i j * (cr 0x42FE0000#32 / mxR h j))

/-- The second product, dequantised. -/
def hi2 (A : Fin 10000 → Fin 10000 → ℝ) (h : Fin 10000 → Fin 128 → ℝ) : Fin 10000 → Fin 128 → ℝ := fun i j =>
  (∑ k, (kz A i k : ℝ) / cr 0x437E0000#32 * ((qc h k j : ℝ) * (mxR h j / cr 0x42FE0000#32))) + cr 0x3F000000#32 * ∑ k, h k j

def h2 (A : Fin 10000 → Fin 10000 → ℝ) (h h' : Fin 10000 → Fin 128 → ℝ) (w : Fin 256 → Fin 128 → ℝ) : Fin 10000 → Fin 128 → ℝ := fun i j =>
  relu (conv (cr 0x3E647FBE#32) (cr 0x3F32FCDC#32) (cr 0x3D9F19A7#32) (hi2 A h') h w i j + h' i j)

/-- One layer of the side branch. -/
def side (h : Fin 10000 → Fin 128 → ℝ) (w : Fin 256 → Fin 128 → ℝ) (B : Fin 128 → ℝ) : Fin 10000 → Fin 128 → ℝ := fun i j =>
  relu ((∑ k, cat (h i) (fun k => - h i k) k * w k j) + B j)

def dy (h : Fin 10000 → Fin 128 → ℝ) (w0 w1 : Fin 256 → Fin 128 → ℝ) (B0 B1 : Fin 128 → ℝ) : Fin 10000 → Fin 128 → ℝ := fun i j =>
  side (side h w0 B0) w1 B1 i j + cr 0x3DCCCCCD#32 * h i j

/-- A row less its mean, and its mean square. -/
def dev (z : Fin 128 → ℝ) (j : Fin 128) : ℝ := z j - (∑ k, z k) / cr 0x43000000#32
def vr (z : Fin 128 → ℝ) : ℝ := (∑ k, dev z k * dev z k) / cr 0x43000000#32

theorem vr_pos (z : Fin 128 → ℝ) : 0 < vr z + cr 0x358637BD#32 := by
  have h : 0 ≤ vr z := by
    unfold vr; rw [cr_128]
    exact div_nonneg (Finset.sum_nonneg fun k _ => mul_self_nonneg _) (by norm_num)
  linarith [cr_eps]

/-- A row normalised, its gain and offset any extended reals. -/
def lnE (g b : Fin 128 → EReal) (z : Fin 128 → ℝ) (j : Fin 128) : EReal :=
  g j * ((dev z j : ℝ) : EReal) * (((Real.sqrt (vr z + cr 0x358637BD#32))⁻¹ : ℝ) : EReal) + b j

/-- A row of scores. -/
def logitsE (c : Fin 128 → EReal) (w : Fin 128 → Fin 40 → EReal) (b : Fin 40 → EReal) (j : Fin 40) : EReal :=
  (∑ k, c k * w k j) + b j

def maxE (z : Fin 40 → EReal) : EReal := (Finset.univ : Finset (Fin 40)).fold max (FloatOps.ofBits (F := Ideal) .f32 0xFF800000#32) z

/-- The logarithm of a row's softmax. -/
def logpE (z : Fin 40 → EReal) (j : Fin 40) : EReal :=
  (z j - maxE z) - Ideal.log (∑ k, Ideal.exp (z k - maxE z))

end Layers

/-! ## Slices of the weights, and two arrays side by side -/

/-- A matrix cut out of a stack of matrices. -/
theorem sq_apply {n R r c : ℕ} {α : Type} (x : (⟨3, ![n, R, c]⟩ : Shape).Idx → α) (l o : ℕ) (h) (h') (L : Fin n) (k : Fin r) (K : Fin R) (j : Fin c)
    (hL : L.val = l) (hK : K.val = o + k.val) :
    shapeCast (⟨2, ![r, c]⟩ : Shape) (extractStridedSlice (⟨3, ![1, r, c]⟩ : Shape) ![l, o, 0] x h) h' (ix2 k j) = x (ix3 L K j) := by
  rw [shapeCast_apply _ h' (ix2 k j) (ix3 0 k j) (by
    rw [Shape.rowMajor_val_three, Shape.rowMajor_val_two]
    show (0 * r + k.val) * c + j.val = k.val * c + j.val
    simp)]
  refine extractStridedSlice_apply _ x h _ _ fun d => ?_
  match d with
  | ⟨0, _⟩ => show L.val = l + 0; omega
  | ⟨1, _⟩ => exact hK
  | ⟨2, _⟩ => show j.val = 0 + j.val; omega

/-- A row cut out of a matrix. -/
theorem rw_apply {n c : ℕ} {α : Type} (x : (⟨2, ![n, c]⟩ : Shape).Idx → α) (l : ℕ) (h) (h') (L : Fin n) (j : Fin c) (hL : L.val = l) :
    shapeCast (⟨1, ![c]⟩ : Shape) (extractStridedSlice (⟨2, ![1, c]⟩ : Shape) ![l, 0] x h) h' (ix1 j) = x (ix2 L j) := by
  rw [shapeCast_apply _ h' (ix1 j) (ix2 0 j) (by
    rw [Shape.rowMajor_val_two, Shape.rowMajor_val_one]
    show 0 * c + j.val = j.val
    simp)]
  refine extractStridedSlice_apply _ x h _ _ fun d => ?_
  match d with
  | ⟨0, _⟩ => show L.val = l + 0; omega
  | ⟨1, _⟩ => show j.val = 0 + j.val; omega

theorem IsR.hcat {a : ℕ} {u v : FVec Ideal ⟨2, ![a, 128]⟩ .f32} {f g : Fin a → Fin 128 → ℝ} (hu : IsR u f) (hv : IsR v g) (h) :
    IsR (concatenate (⟨2, ![a, 256]⟩ : Shape) 1 [⟨⟨2, ![a, 128]⟩, u⟩, ⟨⟨2, ![a, 128]⟩, v⟩] h) (fun i => cat (f i) (g i)) := fun i j => by
  show _ = ((cat (f i) (g i) j : ℝ) : EReal)
  unfold cat
  by_cases hj : j.val < 128
  · rw [dif_pos hj, ← hu i ⟨j.val, hj⟩]
    refine concatenate_pair_apply_left _ u v h _ rfl _ fun d => ?_
    match d with
    | ⟨0, _⟩ => rfl
    | ⟨1, _⟩ => rfl
  · rw [dif_neg hj, ← hv i]
    refine concatenate_pair_apply_right _ u v h _ rfl rfl _ (fun d hd => ?_) ?_
    · match d with
      | ⟨0, _⟩ => rfl
      | ⟨1, _⟩ => exact absurd rfl hd
    · show j.val - 128 + 128 = j.val
      omega

end Cert.Val
-- ==== Proof.KPay.lean ====
module

public import proofs.«01_k».proof.Proof.Spec
public import proofs.«01_k».proof.Proof.Gen.KernelIdeal.Skeleton
public import Idealize.ShloMosaic.Lib.IntMxu

@[expose] public section

/-! The kernel's stored values, as functions of the values read, on arrays of real numbers. -/

noncomputable section

namespace Cert.KVal

open Cert.KernelIdeal Cert.KernelIdeal.Gen Cert.Val
open Idealize.ShloMosaic Idealize.ShloMosaic.ValueIdx
open scoped BigOperators

/-! ## The first layer -/

section First
variable {x : FVec Ideal S10000x128 .f32} {w : FVec Ideal S128x128 .f32} {b : FVec Ideal S1x128 .f32}
  {X : Fin 10000 → Fin 128 → ℝ} {W : Fin 128 → Fin 128 → ℝ} {B : Fin 1 → Fin 128 → ℝ}

theorem p1 (hx : IsR x X) (hw : IsR w W) (hb : IsR b B) : IsR (k0_pay1 (F := Ideal) x w b) (h0 X W (B 0)) :=
  IsR.castSelf (IsR.maxf (IsR.add (IsR.mm _ rfl hx hw) (IsR.row (IsR.castSelf hb _) _)) (IsR.cst (fin32 _ (by decide)))) _

theorem p3 (hx : IsR x X) : IsR (k0_pay3 (F := Ideal) x) (fun _ j => mxR X j) := IsR.mx hx _ _ _ _

theorem p4 (hx : IsR x X) (i : Fin 10000) (j : Fin 128) : (k0_pay4 (F := Ideal) x (ix2 i j)).toInt = qc X i j := by
  have h : IsR (roundeven (mulf x (broadcastTo S10000x128 (divf (broadcast S1x128 (Scalar.ofBits (F := Ideal) .f32 0x42FE0000#32)) (k0_pay3 x))
      broadcasts_S1x128_S10000x128))) (fun i j => rnd (X i j * (cr 0x42FE0000#32 / mxR X j))) :=
    IsR.round (IsR.mul hx (IsR.row (IsR.div (IsR.cst (fin32 _ (by decide))) (p3 hx) (fun _ j => (mxR_pos X j).ne')) _))
  show (Ideal.fptosi 8 (_ : EReal)).toInt = _
  exact (congrArg (fun r => (Ideal.fptosi 8 r).toInt) (h i j)).trans (fptosi_rnd _)

theorem p5 (hx : IsR x X) : IsR (k0_pay5 (F := Ideal) x) (fun _ j => mxR X j * (1 / 32258)) :=
  IsR.row (IsR.castSelf (IsR.mul (p3 hx) (show IsR (broadcast S1x128 (Named.named (F := Ideal) κ "step" (φ := .f32) 0x38020610#32)) (fun _ _ => (1 / 32258 : ℝ)) from
    fun _ _ => rfl)) shapeCasts_S1x128_S1x128) broadcasts_S1x128_S8x128

theorem p6 (hx : IsR x X) : IsR (k0_pay6 (F := Ideal) x) (fun _ j => ∑ k, X k j) :=
  IsR.row (IsR.castSelf (IsR1.vecRow (IsR.colSum hx _ _ _ _) shapeCasts_S128_S1x128) shapeCasts_S1x128_S1x128) broadcasts_S1x128_S8x128

end First

section Block
variable {a : FVec Ideal S400x10000 .f32} {A : Fin 400 → Fin 10000 → ℝ}

/-- A block of the adjacency on the grid of signed bytes. -/
theorem p7 (ha : IsR a A) (u : Fin 1) (i : Fin 400) (k : Fin 10000) :
    (k0_pay7 (F := Ideal) a (ix3 u i k)).toInt = qz (cr 0x437E0000#32 * A i k - cr 0x42FE0000#32) := by
  have h : IsR (roundeven (subf (mulf a (broadcast S400x10000 (Scalar.ofBits (F := Ideal) .f32 0x437E0000#32)))
      (broadcast S400x10000 (Scalar.ofBits (F := Ideal) .f32 0x42FE0000#32)))) (fun i k => rnd (cr 0x437E0000#32 * A i k - cr 0x42FE0000#32)) :=
    (IsR.round (IsR.sub (IsR.mul ha (IsR.cst (fin32 _ (by decide)))) (IsR.cst (fin32 _ (by decide))))).congr
      fun i k => by rw [mul_comm (A i k)]
  show (shapeCast S1x400x10000 (fptosi 8 _) shapeCasts_S400x10000_S1x400x10000 (ix3 u i k)).toInt = _
  rw [shapeCast_apply _ _ (ix3 u i k) (ix2 i k) (by
    rw [Shape.rowMajor_val_two, Shape.rowMajor_val_three]
    show i.val * 10000 + k.val = (u.val * 400 + i.val) * 10000 + k.val
    have := u.isLt
    simp [show u.val = 0 by omega])]
  show (Ideal.fptosi 8 (_ : EReal)).toInt = _
  exact (congrArg (fun r => (Ideal.fptosi 8 r).toInt) (h i k)).trans (fptosi_rnd _)

variable {h : FVec Ideal S10000x128 .f32} {H : Fin 10000 → Fin 128 → ℝ} {r : FVec Ideal S400x128 .f32} {R : Fin 400 → Fin 128 → ℝ}
  {m1 b1 b2 : FVec Ideal S128x128 .f32} {M1 B1 B2 : Fin 128 → Fin 128 → ℝ}

theorem p8 (ha : IsR a A) (hh : IsR h H) (hr : IsR r R) (hm : IsR m1 M1) (hb : IsR b1 B1) :
    IsR (k0_pay8 (F := Ideal) a h r m1 b1)
      (fun i j => relu (∑ l, (∑ k, A i k * H k l) * M1 l j + ∑ l, R i l * B1 l j)) :=
  IsR.maxf (IsR.add (IsR.mm _ rfl (IsR.mm _ rfl ha hh) (IsR.castSelf hm _)) (IsR.mm _ rfl hr (IsR.castSelf hb _))) (IsR.cst (fin32 _ (by decide)))

theorem p9 (ha : IsR a A) (hh : IsR h H) (hr : IsR r R) (hm : IsR m1 M1) (hb : IsR b1 B1) :
    IsR (k0_pay9 (F := Ideal) a h r m1 b1)
      (fun i j => relu (∑ l, (∑ k, A i k * H k l) * M1 l j + ∑ l, R i l * B1 l j)) :=
  IsR.castSelf (p8 ha hh hr hm hb) _

theorem p10 (hr : IsR r R) (hb : IsR b2 B2) : IsR (k0_pay10 (F := Ideal) r b2) (fun i j => ∑ l, R i l * B2 l j) :=
  IsR.mm _ rfl hr (IsR.castSelf hb _)

/-- A block less its rows' means. -/
theorem devOf {z : FVec Ideal S400x128 .f32} {Z : Fin 400 → Fin 128 → ℝ} (hz : IsR z Z) (h1) (h2) (h3) :
    IsR (subf z (broadcastTo S400x128 (divf (shapeCast S400x1 (multiReduction (F := Ideal) .add [1] S400 z 0x00000000#32 reduces_S400x128_S400 h1 h2) shapeCasts_S400_S400x1)
      (broadcast S400x1 (Scalar.ofBits .f32 0x43000000#32))) h3)) (fun i j => dev (Z i) j) :=
  IsR.sub hz (IsR.col (IsR.div (IsR1.vecCol (IsR.rowSum hz _ _ _ _) _) (IsR.cst (fin32 _ (by decide)))
    (fun _ _ => by rw [cr_128]; norm_num)) _)

variable {w0 w1 : FVec Ideal S128x128 .f32} {W0 W1 : Fin 128 → Fin 128 → ℝ} {c0 c1 : FVec Ideal S1x128 .f32} {C0 C1 : Fin 1 → Fin 128 → ℝ}

/-- The side branch of a block, before normalisation. -/
def sideK (R : Fin 400 → Fin 128 → ℝ) (W0 W1 : Fin 128 → Fin 128 → ℝ) (C0 C1 : Fin 1 → Fin 128 → ℝ) (i : Fin 400) (j : Fin 128) : ℝ :=
  relu (∑ l, relu (∑ k, R i k * W0 k l + C0 0 l) * W1 l j + C1 0 j) + cr 0x3DCCCCCD#32 * R i j

theorem p14 (hr : IsR r R) (h0 : IsR w0 W0) (g0 : IsR c0 C0) (h1 : IsR w1 W1) (g1 : IsR c1 C1) :
    IsR (k0_pay14 (F := Ideal) r w0 c0 w1 c1) (fun i j => dev (sideK R W0 W1 C0 C1 i) j) :=
  devOf (Z := sideK R W0 W1 C0 C1) (IsR.add (IsR.maxf (IsR.add (IsR.mm _ rfl (IsR.maxf (IsR.add (IsR.mm _ rfl hr (IsR.castSelf h0 _)) (IsR.row (IsR.castSelf g0 _) _))
    (IsR.cst (fin32 _ (by decide)))) (IsR.castSelf h1 _)) (IsR.row (IsR.castSelf g1 _) _)) (IsR.cst (fin32 _ (by decide))))
    (IsR.mul (IsR.cst (fin32 _ (by decide))) hr)) _ _ _

theorem p15 (hr : IsR r R) (h0 : IsR w0 W0) (g0 : IsR c0 C0) (h1 : IsR w1 W1) (g1 : IsR c1 C1) :
    IsR (k0_pay15 (F := Ideal) r w0 c0 w1 c1) (fun i _ => ∑ k, dev (sideK R W0 W1 C0 C1 i) k * dev (sideK R W0 W1 C0 C1 i) k) :=
  IsR1.vecCol (IsR.rowSum (IsR.mul (p14 hr h0 g0 h1 g1) (p14 hr h0 g0 h1 g1)) _ _ _ _) _

/-- The normalised block. -/
theorem lnOf {g b : FVec Ideal S1x128 .f32} {d : FVec Ideal S400x128 .f32} {s : FVec Ideal S400x1 .f32} {Z : Fin 400 → Fin 128 → ℝ}
    (hd : IsR d (fun i j => dev (Z i) j)) (hs : IsR s (fun i _ => ∑ k, dev (Z i) k * dev (Z i) k)) (h1) (h2) (h3) (i : Fin 400) (j : Fin 128) :
    addf (mulf (mulf (broadcastTo S400x128 g h1) d) (broadcastTo S400x128 (rsqrt (addf (divf s (broadcast S400x1 (Scalar.ofBits (F := Ideal) .f32 0x43000000#32)))
      (broadcast S400x1 (Scalar.ofBits (F := Ideal) .f32 0x358637BD#32)))) h2)) (broadcastTo S400x128 b h3) (ix2 i j)
      = lnE (fun k => g (ix2 0 k)) (fun k => b (ix2 0 k)) (Z i) j := by
  have hv : IsR (rsqrt (addf (divf s (broadcast S400x1 (Scalar.ofBits (F := Ideal) .f32 0x43000000#32)))
      (broadcast S400x1 (Scalar.ofBits (F := Ideal) .f32 0x358637BD#32)))) (fun i _ => (Real.sqrt (vr (Z i) + cr 0x358637BD#32))⁻¹) :=
    IsR.rsqrt (IsR.add (IsR.div hs (IsR.cst (fin32 _ (by decide))) (fun _ _ => by rw [cr_128]; norm_num)) (IsR.cst (fin32 _ (by decide))))
      (fun i _ => vr_pos (Z i))
  rw [addf_apply, mulf_apply, mulf_apply, row_apply, row_apply, IsR.col hv _ i j, hd i j]
  rfl

theorem p2 {g b : FVec Ideal S1x128 .f32} (hr : IsR r R) (h0 : IsR w0 W0) (g0 : IsR c0 C0) (h1 : IsR w1 W1) (g1 : IsR c1 C1) (i : Fin 400) (j : Fin 128) :
    k0_pay2 (F := Ideal) (k0_pay12 g) (k0_pay13 b) (k0_pay14 r w0 c0 w1 c1) (k0_pay15 r w0 c0 w1 c1) (Scalar.ofBits .f32 0x43000000#32) (ix2 i j)
      = lnE (fun k => g (ix2 0 k)) (fun k => b (ix2 0 k)) (sideK R W0 W1 C0 C1 i) j := by
  have e1 : k0_pay12 (F := Ideal) g = g := shapeCast_self g _
  have e2 : k0_pay13 (F := Ideal) b = b := shapeCast_self b _
  rw [e1, e2]
  exact lnOf (p14 hr h0 g0 h1 g1) (p15 hr h0 g0 h1 g1) _ _ _ i j

end Block

/-! ## The second layer -/

section Int

/-- A sum over the contracted axis of a plain product is a sum over its numbers. -/
theorem contr_sum {M K N : ℕ} {α β γ : Type} [AddCommMonoid γ] (G : α → β → γ) (l : (⟨2, ![M, K]⟩ : Shape).Idx → α) (r : (⟨2, ![K, N]⟩ : Shape).Idx → β)
    (i : Fin M) (j : Fin N) :
    ∑ k, G (l ((DotDims.plain M K N).lhsIdx (ix2 i j) k)) (r ((DotDims.plain M K N).rhsIdx (ix2 i j) k)) = ∑ k : Fin K, G (l (ix2 i k)) (r (ix2 k j)) := by
  rw [← Equiv.sum_comp (DotDims.plainContr M K N).symm]
  refine Finset.sum_congr rfl fun k _ => ?_
  have hk := contrEquiv1_symm_val _ K (DotDims.plain_contr_rank M K N) (DotDims.plain_contr_size M K N) k
  congr 2
  · funext a; apply Fin.ext
    match a with
    | ⟨0, _⟩ => rfl
    | ⟨1, _⟩ => exact hk
  · funext a; apply Fin.ext
    match a with
    | ⟨0, _⟩ => exact hk
    | ⟨1, _⟩ => rfl

/-- The product of signed bytes is the product of the integers, while the magnitudes stay in range. -/
theorem imm {M K N : ℕ} (d : DotDims ⟨2, ![M, K]⟩ ⟨2, ![K, N]⟩ ⟨2, ![M, N]⟩) (hd : d = DotDims.plain M K N)
    (l : IVec ⟨2, ![M, K]⟩ 8) (r : IVec ⟨2, ![K, N]⟩ 8) (f : Fin M → Fin K → ℤ) (g : Fin K → Fin N → ℤ)
    (hl : ∀ i k, (l (ix2 i k)).toInt = f i k) (hr : ∀ k j, (r (ix2 k j)).toInt = g k j)
    (hb : ∀ i j, ∑ k, (f i k * g k j).natAbs ≤ 16777215) :
    IsR (sitofp (F := Ideal) .f32 (matmulI8 IntMxuNumerics.v7x d l r (constantI ⟨2, ![M, N]⟩ 32 0#32))) (fun i j => ∑ k, (f i k : ℝ) * (g k j : ℝ)) := fun i j => by
  subst hd
  show ((((matmulI8 IntMxuNumerics.v7x (DotDims.plain M K N) l r (constantI ⟨2, ![M, N]⟩ 32 0#32) (ix2 i j)).toInt : ℤ) : ℝ) : EReal) = _
  rw [matmulI8_toInt _ _ _ _ _ _ rfl (by
    show ∑ k, (fun (a b : BitVec 8) => (a.toInt * b.toInt).natAbs) _ _ ≤ _
    rw [contr_sum (fun (a b : BitVec 8) => (a.toInt * b.toInt).natAbs) l r i j]
    simp only [hl, hr]
    exact hb i j)]
  congr 1
  show ((∑ k, (fun (a b : BitVec 8) => (a.toInt * b.toInt)) _ _ : ℤ) : ℝ) = _
  rw [contr_sum (fun (a b : BitVec 8) => (a.toInt * b.toInt)) l r i j]
  push_cast
  simp only [hl, hr]

end Int

section Second
variable {v0 : IVec S1x400x10000 8} {v2 : IVec S10000x128 8} {v6 v10 : FVec Ideal S1x128 .f32} {v16 : FVec Ideal S128x128 .f32} {v19 : FVec Ideal S400x128 .f32}
  {kk : Fin 400 → Fin 10000 → ℤ} {qq : Fin 10000 → Fin 128 → ℤ} {sc s : Fin 1 → Fin 128 → ℝ} {M2 : Fin 128 → Fin 128 → ℝ} {P : Fin 400 → Fin 128 → ℝ}

/-- A block of the second layer's rows. -/
def h2K (kk : Fin 400 → Fin 10000 → ℤ) (qq : Fin 10000 → Fin 128 → ℤ) (sc s : Fin 1 → Fin 128 → ℝ) (M2 : Fin 128 → Fin 128 → ℝ) (P : Fin 400 → Fin 128 → ℝ)
    (i : Fin 400) (j : Fin 128) : ℝ :=
  relu (∑ l, ((∑ k, (kk i k : ℝ) * (qq k l : ℝ)) * sc 0 l + cr 0x3F000000#32 * s 0 l) * M2 l j + P i j)

theorem q5 (h0 : ∀ i k, (v0 (ix3 0 i k)).toInt = kk i k) (h2 : ∀ k j, (v2 (ix2 k j)).toInt = qq k j)
    (hb : ∀ i j, ∑ k, (kk i k * qq k j).natAbs ≤ 16777215) (h6 : IsR v6 sc) (h10 : IsR v10 s) (h16 : IsR v16 M2) (h19 : IsR v19 P) :
    IsR (k1_pay5 (F := Ideal) v0 v2 v6 v10 v16 v19) (fun i j => dev (h2K kk qq sc s M2 P i) j) :=
  devOf (Z := h2K kk qq sc s M2 P) (IsR.maxf (IsR.add (IsR.mm _ rfl (IsR.add (IsR.mul (imm _ rfl _ _ kk qq
        (fun i k => by
          rw [shapeCast_apply _ _ (ix2 i k) (ix3 0 i k) (by
            rw [Shape.rowMajor_val_two, Shape.rowMajor_val_three]
            show (0 * 400 + i.val) * 10000 + k.val = i.val * 10000 + k.val
            simp)]
          exact h0 i k)
        (fun k j => by rw [shapeCast_self]; exact h2 k j) hb)
      (IsR.row (IsR.castSelf h6 _) _)) (IsR.row (IsR.mul (IsR.cst (fin32 _ (by decide))) (IsR.castSelf h10 _)) _)) (IsR.castSelf h16 _))
    (IsR.castSelf h19 _)) (IsR.cst (fin32 _ (by decide)))) _ _ _

theorem q6 (h0 : ∀ i k, (v0 (ix3 0 i k)).toInt = kk i k) (h2 : ∀ k j, (v2 (ix2 k j)).toInt = qq k j)
    (hb : ∀ i j, ∑ k, (kk i k * qq k j).natAbs ≤ 16777215) (h6 : IsR v6 sc) (h10 : IsR v10 s) (h16 : IsR v16 M2) (h19 : IsR v19 P) :
    IsR (k1_pay6 (F := Ideal) v0 v2 v6 v10 v16 v19) (fun i j => dev (h2K kk qq sc s M2 P i) j * dev (h2K kk qq sc s M2 P i) j) :=
  IsR.mul (q5 h0 h2 hb h6 h10 h16 h19) (q5 h0 h2 hb h6 h10 h16 h19)

/-- The first result's block. -/
theorem q1 {g b : FVec Ideal S1x128 .f32} {y : FVec Ideal S400x128 .f32}
    (h0 : ∀ i k, (v0 (ix3 0 i k)).toInt = kk i k) (h2 : ∀ k j, (v2 (ix2 k j)).toInt = qq k j)
    (hb : ∀ i j, ∑ k, (kk i k * qq k j).natAbs ≤ 16777215) (h6 : IsR v6 sc) (h10 : IsR v10 s) (h16 : IsR v16 M2) (h19 : IsR v19 P)
    (i : Fin 400) (j : Fin 128) :
    k1_pay1 (F := Ideal) (k1_pay3 g) (k1_pay4 b) (k1_pay5 v0 v2 v6 v10 v16 v19) (k1_pay6 v0 v2 v6 v10 v16 v19) y (ix2 i j)
      = lnE (fun k => g (ix2 0 k)) (fun k => b (ix2 0 k)) (h2K kk qq sc s M2 P i) j + y (ix2 i j) := by
  have e1 : k1_pay3 (F := Ideal) g = g := shapeCast_self g _
  have e2 : k1_pay4 (F := Ideal) b = b := shapeCast_self b _
  rw [e1, e2]
  show addf _ (shapeCast S400x128 y _) (ix2 i j) = _
  rw [addf_apply, shapeCast_self]
  exact congrArg (· + y (ix2 i j)) (lnOf (q5 h0 h2 hb h6 h10 h16 h19) (IsR1.vecCol (IsR.rowSum (q6 h0 h2 hb h6 h10 h16 h19) _ _ _ _) _) _ _ _ i j)

theorem klog_apply {s : Shape} (x : FVec Ideal s .f32) (i : s.Idx) : log x i = Ideal.log (x i) := rfl
theorem kexp_apply {s : Shape} (x : FVec Ideal s .f32) (i : s.Idx) : exp x i = Ideal.exp (x i) := rfl

/-- The other result's block. -/
theorem q2 (v25 v27 : FVec Ideal S1x128 .f32) (v33 v34 v48 : FVec Ideal S400x128 .f32) (v52 : FVec Ideal S128x40 .f32) (v54 : FVec Ideal S1x40 .f32)
    (i : Fin 400) (j : Fin 40) :
    k1_pay2 (F := Ideal) v25 v27 v33 v34 v48 v52 v54 (ix2 i j)
      = logpE (logitsE (fun k => k1_pay1 (F := Ideal) v25 v27 v33 v34 v48 (ix2 i k)) (fun k j => v52 (ix2 k j)) (fun j => v54 (ix2 0 j))) j := by
  have hz : ∀ j', addf (matmul (F := Ideal) dot_S400x128_S128x40_S400x40_1_0_0_1_n_n none (k1_pay1 (F := Ideal) v25 v27 v33 v34 v48) v52 (constant S400x40 .f32 0x00000000#32))
      (broadcastTo S400x40 (shapeCast S1x40 v54 shapeCasts_S1x40_S1x40) broadcasts_S1x40_S400x40) (ix2 i j')
      = logitsE (fun k => k1_pay1 (F := Ideal) v25 v27 v33 v34 v48 (ix2 i k)) (fun k j => v52 (ix2 k j)) (fun j => v54 (ix2 0 j)) j' := fun j' => by
    rw [addf_apply, mm_apply dot_S400x128_S128x40_S400x40_1_0_0_1_n_n rfl, row_apply, shapeCast_self]
    rfl
  generalize logitsE (fun k => k1_pay1 (F := Ideal) v25 v27 v33 v34 v48 (ix2 i k)) (fun k j => v52 (ix2 k j)) (fun j => v54 (ix2 0 j)) = z at hz ⊢
  unfold k1_pay2
  generalize addf (matmul (F := Ideal) dot_S400x128_S128x40_S400x40_1_0_0_1_n_n none (k1_pay1 (F := Ideal) v25 v27 v33 v34 v48) v52 (constant S400x40 .f32 0x00000000#32))
      (broadcastTo S400x40 (shapeCast S1x40 v54 shapeCasts_S1x40_S1x40) broadcasts_S1x40_S400x40) = v at hz ⊢
  have hx : multiReduction (F := Ideal) .maximumf [1] S400 v 0xFF800000#32 reduces_S400x40_S400 (.inl rfl) rfl (ix1 i)
      = (Finset.univ : Finset (Fin 40)).fold max (FloatOps.ofBits (F := Ideal) .f32 0xFF800000#32) (fun k => v (ix2 i k)) :=
    rowMax_apply v _ _ _ _ i
  have hs : ∀ u : FVec Ideal S400x40 .f32, multiReduction (F := Ideal) .add [1] S400 u 0x00000000#32 reduces_S400x40_S400 (.inl rfl) rfl (ix1 i)
      = ∑ k : Fin 40, u (ix2 i k) := fun u => rowSum_apply u _ _ _ _ i
  have hm : ∀ j', subf v (broadcastTo S400x40 (shapeCast S400x1 (multiReduction (F := Ideal) .maximumf [1] S400 v 0xFF800000#32 reduces_S400x40_S400 (.inl rfl) rfl)
      shapeCasts_S400_S400x1) broadcasts_S400x1_S400x40) (ix2 i j') = z j' - maxE z := fun j' => by
    rw [subf_apply, col_apply, vecCol_apply, hx, hz]
    exact congrArg (fun t => z j' - t) (congrArg (Finset.fold max _ · Finset.univ) (funext fun k => hz k))
  show subf (subf v (broadcastTo S400x40 (shapeCast S400x1 (multiReduction (F := Ideal) .maximumf [1] S400 v 0xFF800000#32 reduces_S400x40_S400 (.inl rfl) rfl)
      shapeCasts_S400_S400x1) broadcasts_S400x1_S400x40)) (broadcastTo S400x40 (log (shapeCast S400x1 (multiReduction (F := Ideal) .add [1] S400 (exp (subf v (broadcastTo S400x40 (shapeCast S400x1 (multiReduction (F := Ideal) .maximumf [1] S400 v 0xFF800000#32 reduces_S400x40_S400 (.inl rfl) rfl)
      shapeCasts_S400_S400x1) broadcasts_S400x1_S400x40))) 0x00000000#32 reduces_S400x40_S400 (.inl rfl) rfl) shapeCasts_S400_S400x1)) broadcasts_S400x1_S400x40) (ix2 i j) = _
  rw [subf_apply, hm, col_apply, klog_apply, vecCol_apply, hs]
  exact congrArg (fun t => (z j - maxE z) - Ideal.log t) (Finset.sum_congr rfl fun k _ => by rw [kexp_apply, hm])

end Second

end Cert.KVal
-- ==== Proof.HostVals.lean ====
module

public import proofs.«01_k».proof.Proof.Run

@[expose] public section

/-! What @main's host operations leave in the arrays they prepare for the two pipelines, as functions of the arguments. -/

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Named F]

/-- The identity matrix as the host builds it: ones where the row's number is the column's. -/
def eyeV : FVec F S128x128 .f32 :=
  uitofp .f32 (cmpi .eq (addi (iotaInDim S128x128 32 0) (broadcastInDim S128x128 ![] bcast_S_S128x128 (constantI S_ 32 0#32))) (iotaInDim S128x128 32 1))

/-- A multiple of a square of weights plus a multiple of the identity. -/
def mixV (t d : BitVec 32) (w : FVec F S128x128 .f32) : FVec F S128x128 .f32 :=
  addf (mulf (broadcastInDim S128x128 ![] bcast_S_S128x128 (constant S_ .f32 t)) w)
    (mulf (broadcastInDim S128x128 ![] bcast_S_S128x128 (constant S_ .f32 d)) eyeV)

variable (V0 : Valuation τ sig (Elt F))

set_option maxRecDepth 8192 in
set_option maxHeartbeats 4000000 in
theorem hostOps0_main_v12 : StableHlo.after hostOps0 V0 (Proc.devRef .tc main_v12) = mixV 0x3ECF991F#32 0x3F08FB18#32 (shapeCast S128x128 (extractStridedSlice S1x128x128 ![0, 0, 0] (V0 (Proc.devRef .tc main_arg4)) slices_S2x256x128_S1x128x128_0_0_0) shapeCasts_S1x128x128_S128x128) := by
  rw [hostOps0]
  after_results_simp
  rfl

set_option maxRecDepth 8192 in
set_option maxHeartbeats 4000000 in
theorem hostOps0_main_v19 : StableHlo.after hostOps0 V0 (Proc.devRef .tc main_v19) = mixV 0x3ECF991F#32 0x3F879C2C#32 (shapeCast S128x128 (extractStridedSlice S1x128x128 ![0, 128, 0] (V0 (Proc.devRef .tc main_arg4)) slices_S2x256x128_S1x128x128_0_128_0) shapeCasts_S1x128x128_S128x128) := by
  rw [hostOps0]
  after_results_simp
  rfl

set_option maxRecDepth 8192 in
set_option maxHeartbeats 4000000 in
theorem hostOps0_main_v26 : StableHlo.after hostOps0 V0 (Proc.devRef .tc main_v26) = mixV 0x3E647FBE#32 0x3F32FCDC#32 (shapeCast S128x128 (extractStridedSlice S1x128x128 ![1, 0, 0] (V0 (Proc.devRef .tc main_arg4)) slices_S2x256x128_S1x128x128_1_0_0) shapeCasts_S1x128x128_S128x128) := by
  rw [hostOps0]
  after_results_simp
  rfl

set_option maxRecDepth 8192 in
set_option maxHeartbeats 4000000 in
theorem hostOps0_main_v33 : StableHlo.after hostOps0 V0 (Proc.devRef .tc main_v33) = mixV 0x3E647FBE#32 0x3D9F19A7#32 (shapeCast S128x128 (extractStridedSlice S1x128x128 ![1, 128, 0] (V0 (Proc.devRef .tc main_arg4)) slices_S2x256x128_S1x128x128_1_128_0) shapeCasts_S1x128x128_S128x128) := by
  rw [hostOps0]
  after_results_simp
  rfl

set_option maxRecDepth 8192 in
set_option maxHeartbeats 4000000 in
theorem hostOps0_main_v38 : StableHlo.after hostOps0 V0 (Proc.devRef .tc main_v38) = subf (shapeCast S128x128 (extractStridedSlice S1x128x128 ![0, 0, 0] (V0 (Proc.devRef .tc main_arg5)) slices_S2x256x128_S1x128x128_0_0_0) shapeCasts_S1x128x128_S128x128) (shapeCast S128x128 (extractStridedSlice S1x128x128 ![0, 128, 0] (V0 (Proc.devRef .tc main_arg5)) slices_S2x256x128_S1x128x128_0_128_0) shapeCasts_S1x128x128_S128x128) := by
  rw [hostOps0]
  after_results_simp
  rfl

set_option maxRecDepth 8192 in
set_option maxHeartbeats 4000000 in
theorem hostOps0_main_v43 : StableHlo.after hostOps0 V0 (Proc.devRef .tc main_v43) = subf (shapeCast S128x128 (extractStridedSlice S1x128x128 ![1, 0, 0] (V0 (Proc.devRef .tc main_arg5)) slices_S2x256x128_S1x128x128_1_0_0) shapeCasts_S1x128x128_S128x128) (shapeCast S128x128 (extractStridedSlice S1x128x128 ![1, 128, 0] (V0 (Proc.devRef .tc main_arg5)) slices_S2x256x128_S1x128x128_1_128_0) shapeCasts_S1x128x128_S128x128) := by
  rw [hostOps0]
  after_results_simp
  rfl

set_option maxRecDepth 8192 in
set_option maxHeartbeats 4000000 in
theorem hostOps0_main_v44 : StableHlo.after hostOps0 V0 (Proc.devRef .tc main_v44) = shapeCast S1x128 (V0 (Proc.devRef .tc main_arg3)) shapeCasts_S128_S1x128 := by
  rw [hostOps0]
  after_results_simp
  rfl

set_option maxRecDepth 8192 in
set_option maxHeartbeats 4000000 in
theorem hostOps0_main_v47 : StableHlo.after hostOps0 V0 (Proc.devRef .tc main_v47) = shapeCast S1x128 (shapeCast S128 (extractStridedSlice S1x128 ![0, 0] (V0 (Proc.devRef .tc main_arg6)) slices_S2x128_S1x128_0_0) shapeCasts_S1x128_S128) shapeCasts_S128_S1x128 := by
  rw [hostOps0]
  after_results_simp
  rfl

set_option maxRecDepth 8192 in
set_option maxHeartbeats 4000000 in
theorem hostOps0_main_v50 : StableHlo.after hostOps0 V0 (Proc.devRef .tc main_v50) = shapeCast S1x128 (shapeCast S128 (extractStridedSlice S1x128 ![1, 0] (V0 (Proc.devRef .tc main_arg6)) slices_S2x128_S1x128_1_0) shapeCasts_S1x128_S128) shapeCasts_S128_S1x128 := by
  rw [hostOps0]
  after_results_simp
  rfl

set_option maxRecDepth 8192 in
set_option maxHeartbeats 4000000 in
theorem hostOps0_main_v51 : StableHlo.after hostOps0 V0 (Proc.devRef .tc main_v51) = shapeCast S1x128 (V0 (Proc.devRef .tc main_arg9)) shapeCasts_S128_S1x128 := by
  rw [hostOps0]
  after_results_simp
  rfl

set_option maxRecDepth 8192 in
set_option maxHeartbeats 4000000 in
theorem hostOps0_main_v52 : StableHlo.after hostOps0 V0 (Proc.devRef .tc main_v52) = shapeCast S1x128 (V0 (Proc.devRef .tc main_arg10)) shapeCasts_S128_S1x128 := by
  rw [hostOps0]
  after_results_simp
  rfl

set_option maxRecDepth 8192 in
set_option maxHeartbeats 4000000 in
theorem hostOps1_main_v54 : StableHlo.after hostOps1 V0 (Proc.devRef .tc main_v54) = shapeCast S1x128 (V0 (Proc.devRef .tc main_arg7)) shapeCasts_S128_S1x128 := by
  rw [hostOps1]
  after_results_simp
  rfl

set_option maxRecDepth 8192 in
set_option maxHeartbeats 4000000 in
theorem hostOps1_main_v55 : StableHlo.after hostOps1 V0 (Proc.devRef .tc main_v55) = shapeCast S1x128 (V0 (Proc.devRef .tc main_arg8)) shapeCasts_S128_S1x128 := by
  rw [hostOps1]
  after_results_simp
  rfl

set_option maxRecDepth 8192 in
set_option maxHeartbeats 4000000 in
theorem hostOps1_main_v56 : StableHlo.after hostOps1 V0 (Proc.devRef .tc main_v56) = shapeCast S1x40 (V0 (Proc.devRef .tc main_arg12)) shapeCasts_S40_S1x40 := by
  rw [hostOps1]
  after_results_simp
  rfl

end Cert.KernelIdeal.Hand
-- ==== Proof.KVals.lean ====
module

public import proofs.«01_k».proof.Proof.Arr
public import proofs.«01_k».proof.Proof.KPay
public import proofs.«01_k».proof.Proof.HostVals

@[expose] public section

/-! What the two pipelines' arrays hold at the ideal instance, when the arguments hold real numbers. -/

noncomputable section

namespace Cert.KVal

open Cert.KernelIdeal Cert.KernelIdeal.Gen Cert.Val
open Cert.KernelIdeal.Hand (iblk0 iblk1 H0 H1 rows h1blk preblk dyblk kblk kArr preArr dyArr gr bk wi pb pb_cond qb crossB logpB crossArr logpArr crossv logpv
  gr_bk_wi mixV eyeV)
open Idealize.ShloMosaic hiding ix1 ix2 ix3
open Idealize.ShloMosaic.TcCoe Idealize.ShloMosaic.ValueIdx
open scoped BigOperators

/-! ## The first pipeline -/

section First
variable (V : (c : Dev nD) → (b : Ref sig .tc) → Buf (Elt Ideal) ((c : Thread nD τ).loc b)) (c : Dev nD)
  {X : Fin 10000 → Fin 128 → ℝ} {A : Fin 10000 → Fin 10000 → ℝ} {W : Fin 128 → Fin 128 → ℝ} {B : Fin 128 → ℝ}
  {w0 w1 w2 w3 : Fin 256 → Fin 128 → ℝ} {B0 B1 : Fin 128 → ℝ} {t d e t' e' : ℝ}

theorem H0_val (hX : IsR (V c main_arg0) X) (hW : IsR (V c main_arg2) W) (hB : IsR (V c main_v44) (fun _ j => B j)) :
    IsR (H0 V c) (h0 X W B) := by
  unfold H0
  rw [Hand.iblk0_1, Hand.iblk0_2, Hand.iblk0_3]
  exact p1 (B := fun _ j => B j) hX hW hB

theorem rows_val {h : Fin 10000 → Fin 128 → ℝ} (hh : IsR (H0 V c) h) (b : Fin 25) :
    IsR (rows V c (pb b) (pb_cond b)) (fun i j => h (gr b i) j) := fun i j =>
  (Hand.rows_apply V c b i j).trans (hh (gr b i) j)

theorem adj_val (hA : IsR (V c main_arg1) A) (b : Fin 25) : IsR (iblk0 V c 0 (pb b)) (fun i k => A (gr b i) k) := fun i k =>
  (Hand.iblk0_0 V c b i k).trans (hA (gr b i) k)

/-- A square of weights plus a multiple of the identity. -/
abbrev mixR (t d : ℝ) (w : Fin 128 → Fin 128 → ℝ) : Fin 128 → Fin 128 → ℝ := fun k j => t * w k j + d * eye k j

/-- The first convolution at a row, the coefficients in the weights. -/
theorem conv_row (A : Fin 10000 → Fin 10000 → ℝ) (h : Fin 10000 → Fin 128 → ℝ) (w : Fin 256 → Fin 128 → ℝ) (t d e : ℝ) (i : Fin 10000) (j : Fin 128) :
    relu (∑ l, (∑ k, A i k * h k l) * mixR t d (fun k j => w (lo k) j) l j + ∑ l, h i l * mixR t e (fun k j => w (up k) j) l j)
      = relu (conv t d e (fun i j => ∑ k, A i k * h k j) h w i j) :=
  congrArg relu (conv_fold (fun l => ∑ k, A i k * h k l) (h i) w t d e j)

theorem H1_val {h : Fin 10000 → Fin 128 → ℝ} (hh : IsR (H0 V c) h) (hA : IsR (V c main_arg1) A)
    (h4 : IsR (V c main_v12) (mixR t d fun k j => w0 (lo k) j)) (h5 : IsR (V c main_v19) (mixR t e fun k j => w0 (up k) j)) :
    IsR (H1 V c) (fun i j => relu (conv t d e (fun i j => ∑ k, A i k * h k j) h w0 i j)) := fun i j => by
  rw [Hand.H1_apply]
  unfold h1blk
  rw [Hand.iblk0_4, Hand.iblk0_5]
  refine (p9 (adj_val V c hA (bk i)) hh (rows_val V c hh (bk i)) h4 h5 (wi i) j).trans ?_
  beta_reduce
  rw [gr_bk_wi, conv_row]

theorem kArr_val (hA : IsR (V c main_arg1) A) (b : Fin 25) (i : Fin 400) (k : Fin 10000) :
    (kArr V c (ix3 b i k)).toInt = kz A (gr b i) k :=
  p7 (adj_val V c hA b) 0 i k

theorem preArr_val {h : Fin 10000 → Fin 128 → ℝ} (hh : IsR (H0 V c) h) (hA : IsR (V c main_arg1) A)
    (h4 : IsR (V c main_v12) (mixR t d fun k j => w0 (lo k) j)) (h5 : IsR (V c main_v19) (mixR t e fun k j => w0 (up k) j))
    (h6 : IsR (V c main_v33) (mixR t' e' fun k j => w1 (up k) j)) :
    IsR (preArr V c) (fun i j => relu (conv t d e (fun i j => ∑ k, A i k * h k j) h w0 i j) + ∑ l, h i l * mixR t' e' (fun k j => w1 (up k) j) l j) := fun i j => by
  show preblk V c (pb (bk i)) (pb_cond _) (ix2 (wi i) j) = _
  unfold preblk
  rw [Hand.iblk0_4, Hand.iblk0_5, Hand.iblk0_6]
  refine (IsR.add (p8 (adj_val V c hA (bk i)) hh (rows_val V c hh (bk i)) h4 h5) (p10 (rows_val V c hh (bk i)) h6) (wi i) j).trans ?_
  beta_reduce
  rw [gr_bk_wi, conv_row]

theorem side_row (h : Fin 10000 → Fin 128 → ℝ) (w2 w3 : Fin 256 → Fin 128 → ℝ) (B0 B1 : Fin 128 → ℝ) (b : Fin 25) (i : Fin 400) :
    sideK (fun i j => h (gr b i) j) (fun k j => w2 (lo k) j - w2 (up k) j) (fun k j => w3 (lo k) j - w3 (up k) j) (fun _ j => B0 j) (fun _ j => B1 j) i
      = dy h w2 w3 B0 B1 (gr b i) := funext fun j => by
  unfold sideK dy side
  simp only [neg_fold]

theorem dyArr_val {h : Fin 10000 → Fin 128 → ℝ} (hh : IsR (H0 V c) h)
    (h7 : IsR (V c main_v38) (fun k j => w2 (lo k) j - w2 (up k) j)) (h8 : IsR (V c main_v47) (fun _ j => B0 j))
    (h9 : IsR (V c main_v43) (fun k j => w3 (lo k) j - w3 (up k) j)) (h10 : IsR (V c main_v50) (fun _ j => B1 j)) (i : Fin 10000) (j : Fin 128) :
    dyArr V c (ix2 i j) = lnE (fun k => V c main_v51 (ix2 0 k)) (fun k => V c main_v52 (ix2 0 k)) (dy h w2 w3 B0 B1 i) j := by
  show dyblk V c (pb (bk i)) (pb_cond _) (ix2 (wi i) j) = _
  unfold dyblk
  rw [Hand.iblk0_7, Hand.iblk0_8, Hand.iblk0_9, Hand.iblk0_10, Hand.iblk0_11, Hand.iblk0_12]
  refine (p2 (rows_val V c hh (bk i)) h7 h8 h9 h10 (wi i) j).trans ?_
  rw [side_row, gr_bk_wi]

end First

/-! ## The second pipeline -/

section Second
variable (V : (c : Dev nD) → (b : Ref sig .tc) → Buf (Elt Ideal) ((c : Thread nD τ).loc b)) (c : Dev nD)
  {A : Fin 10000 → Fin 10000 → ℝ} {h H : Fin 10000 → Fin 128 → ℝ} {w1 : Fin 256 → Fin 128 → ℝ} {t d e : ℝ}

theorem win_row {x : FVec Ideal S8x128 .f32} {f : Fin 128 → ℝ} (hx : IsR x (fun _ j => f j)) (inb) :
    IsR (VecWindow.window x ![0, 0] S1x128.size inb) (fun _ j => f j) := fun i j => by
  refine Eq.trans (congrArg x (funext fun a => Fin.ext ((ValueKit.rect_emb_unit_val (s := S8x128) ![0, 0] S1x128.size inb (ix2 i j) a).trans ?_))) (hx 0 j)
  match a with
  | ⟨0, _⟩ => show 0 + i.val = 0; have := i.isLt; omega
  | ⟨1, _⟩ => show 0 + j.val = j.val; omega

/-- A row of the second layer, from the kernel's arrangement. -/
theorem h2_row (i : Fin 10000) (b : Fin 25) (r : Fin 400) (hi : gr b r = i) :
    h2K (fun i k => kz A (gr b i) k) (qc H) (fun _ j => mxR H j * (1 / 32258)) (fun _ j => ∑ k, H k j) (mixR t d fun k j => w1 (lo k) j)
        (fun i j => H (gr b i) j + ∑ l, h (gr b i) l * mixR t e (fun k j => w1 (up k) j) l j) r
      = fun j => relu (conv t d e (hi2 A H) h w1 i j + H i j) := funext fun j => by
  subst hi
  unfold h2K conv
  rw [← conv_fold]
  congr 1
  have hs : ∀ l : Fin 128, (∑ k, (kz A (gr b r) k : ℝ) * (qc H k l : ℝ)) * (mxR H l * (1 / 32258)) + cr 0x3F000000#32 * ∑ k, H k l = hi2 A H (gr b r) l := fun l => by
    unfold hi2
    rw [cr_254, cr_127]
    exact scale_fold (fun k => (kz A (gr b r) k : ℝ)) (fun k => (qc H k l : ℝ)) (mxR H l) _
  simp only [hs]
  ring

variable (h0 : ∀ b i k, (V c main_v53_0 (ix3 b i k)).toInt = kz A (gr b i) k) (h1 : ∀ k j, (V c main_v53_1 (ix2 k j)).toInt = qc H k j)
  (hb : ∀ i j, ∑ k, (kz A i k * qc H k j).natAbs ≤ 16777215)
  (hp : IsR (V c main_v53_2) (fun i j => H i j + ∑ l, h i l * mixR t e (fun k j => w1 (up k) j) l j))
  (hsc : IsR (V c main_v53_4) (fun _ j => mxR H j * (1 / 32258))) (hs : IsR (V c main_v53_5) (fun _ j => ∑ k, H k j))
  (hm : IsR (V c main_v26) (mixR t d fun k j => w1 (lo k) j))

include h0 h1 hb hp hsc hs hm in
theorem crossB_val (b : Fin 25) (r : Fin 400) (j : Fin 128) :
    crossB V c b (ix2 r j) = lnE (fun k => V c main_v54 (ix2 0 k)) (fun k => V c main_v55 (ix2 0 k))
      (fun j => relu (conv t d e (hi2 A H) h w1 (gr b r) j + H (gr b r) j)) j + V c main_v53_3 (ix2 (gr b r) j) := by
  unfold crossB crossv
  rw [Hand.iblk1_1, Hand.iblk1_4, Hand.iblk1_5, Hand.iblk1_6, Hand.iblk1_7, Hand.iblk1_8]
  refine (q1 (kk := fun i k => kz A (gr b i) k) (qq := qc H) (fun i k => (congrArg BitVec.toInt (Hand.iblk1_0 V c b i k)).trans (h0 b i k)) h1 (fun i j => hb (gr b i) j)
    (win_row hsc _) (win_row hs _) hm (fun i j => (Hand.iblk1_2 V c b i j).trans (hp (gr b i) j)) r j).trans ?_
  rw [h2_row (gr b r) b r rfl, Hand.iblk1_3]

include h0 h1 hb hp hsc hs hm in
theorem crossArr_val (i : Fin 10000) (j : Fin 128) :
    crossArr V c (ix2 i j) = lnE (fun k => V c main_v54 (ix2 0 k)) (fun k => V c main_v55 (ix2 0 k))
      (fun j => relu (conv t d e (hi2 A H) h w1 i j + H i j)) j + V c main_v53_3 (ix2 i j) := by
  show crossB V c (bk i) (ix2 (wi i) j) = _
  rw [crossB_val V c h0 h1 hb hp hsc hs hm, gr_bk_wi]

theorem logpArr_val (i : Fin 10000) (j : Fin 40) :
    logpArr V c (ix2 i j) = logpE (logitsE (fun k => crossArr V c (ix2 i k)) (fun k j => V c main_arg11 (ix2 k j)) (fun j => V c main_v56 (ix2 0 j))) j := by
  show logpB V c (bk i) (ix2 (wi i) j) = _
  unfold logpB logpv
  refine (q2 _ _ _ _ _ _ _ (wi i) j).trans ?_
  rw [Hand.iblk1_9, Hand.iblk1_10]
  rfl

end Second

end Cert.KVal
-- ==== Proof.KFinal.lean ====
module

public import proofs.«01_k».proof.Proof.KVals

@[expose] public section

/-! The kernel's two results at the ideal instance, as functions of the arguments. -/

noncomputable section

namespace Cert.KVal

open Cert.KernelIdeal Cert.KernelIdeal.Gen Cert.Val
open Cert.KernelIdeal.Hand (E0 E1 E2 E3 E4 U1 U2 U3 H0 H1 kArr preArr dyArr crossArr logpArr gr mixV eyeV)
open Idealize.ShloMosaic hiding ix1 ix2 ix3
open Idealize.ShloMosaic.TcCoe Idealize.ShloMosaic.ValueIdx
open scoped BigOperators

/-! ## The weights the host prepares -/

theorem eyeV_val : IsR (eyeV (F := Ideal)) eye := fun k j => by
  show ((((BitVec.ofBool (decide (BitVec.ofNat 32 k.val + 0#32 = BitVec.ofNat 32 j.val))).toNat : ℕ) : ℝ) : EReal) = ((eye k j : ℝ) : EReal)
  unfold eye
  by_cases h : k = j
  · subst h; simp
  · have : ¬ (BitVec.ofNat 32 k.val + 0#32 = BitVec.ofNat 32 j.val) := fun e => h (Fin.ext (by
      have e' := congrArg BitVec.toNat e
      have h1 := k.isLt; have h2 := j.isLt
      simp only [BitVec.add_zero, BitVec.toNat_ofNat] at e'
      omega))
    rw [if_neg h]; simp only [this, decide_false]; simp

theorem mixV_val {t d : BitVec 32} {w : FVec Ideal S128x128 .f32} {f : Fin 128 → Fin 128 → ℝ} (ht : Fin32 t) (hd : Fin32 d) (hw : IsR w f) :
    IsR (mixV (F := Ideal) t d w) (mixR (cr t) (cr d) f) :=
  IsR.add (IsR.mul (IsR.hcst ht _) hw) (IsR.mul (IsR.hcst hd _) eyeV_val)

variable (m : (ℓ : Loc nD τ sig) → Buf (Elt Ideal) ℓ) (ρ : Dev nD → PrngReg) (c : Dev nD)
  {X : Fin 10000 → Fin 128 → ℝ} {A : Fin 10000 → Fin 10000 → ℝ} {W : Fin 128 → Fin 128 → ℝ} {B : Fin 128 → ℝ}
  {CW DW : Fin 2 → Fin 256 → Fin 128 → ℝ} {DB : Fin 2 → Fin 128 → ℝ}
  (hX : IsR (m ((c : Thread nD τ).loc main_arg0)) X) (hA : IsR (m ((c : Thread nD τ).loc main_arg1)) A)
  (hW : IsR (m ((c : Thread nD τ).loc main_arg2)) W) (hB : IsR1 (m ((c : Thread nD τ).loc main_arg3)) B)
  (hC : ∀ l k j, m ((c : Thread nD τ).loc main_arg4) (ix3 l k j) = ((CW l k j : ℝ) : EReal))
  (hD : ∀ l k j, m ((c : Thread nD τ).loc main_arg5) (ix3 l k j) = ((DW l k j : ℝ) : EReal))
  (hE : IsR (m ((c : Thread nD τ).loc main_arg6)) DB)

section Weights

include hB in
theorem v44 : IsR (U1 m ρ c main_v44) (fun _ j => B j) := by
  rw [show U1 m ρ c main_v44 = _ from Hand.hostOps0_main_v44 (E0 m ρ c)]
  exact IsR1.vecRow hB _

include hC in
theorem v12 : IsR (U1 m ρ c main_v12) (mixR (cr 0x3ECF991F#32) (cr 0x3F08FB18#32) fun k j => CW 0 (lo k) j) := by
  rw [show U1 m ρ c main_v12 = _ from Hand.hostOps0_main_v12 (E0 m ρ c)]
  exact mixV_val (fin32 _ (by decide)) (fin32 _ (by decide)) fun k j =>
    (sq_apply _ 0 0 _ _ 0 k (lo k) j rfl (by simp [lo])).trans (hC 0 (lo k) j)

include hC in
theorem v19 : IsR (U1 m ρ c main_v19) (mixR (cr 0x3ECF991F#32) (cr 0x3F879C2C#32) fun k j => CW 0 (up k) j) := by
  rw [show U1 m ρ c main_v19 = _ from Hand.hostOps0_main_v19 (E0 m ρ c)]
  exact mixV_val (fin32 _ (by decide)) (fin32 _ (by decide)) fun k j =>
    (sq_apply _ 0 128 _ _ 0 k (up k) j rfl (by simp [up])).trans (hC 0 (up k) j)

include hC in
theorem v26 : IsR (U1 m ρ c main_v26) (mixR (cr 0x3E647FBE#32) (cr 0x3F32FCDC#32) fun k j => CW 1 (lo k) j) := by
  rw [show U1 m ρ c main_v26 = _ from Hand.hostOps0_main_v26 (E0 m ρ c)]
  exact mixV_val (fin32 _ (by decide)) (fin32 _ (by decide)) fun k j =>
    (sq_apply _ 1 0 _ _ 1 k (lo k) j rfl (by simp [lo])).trans (hC 1 (lo k) j)

include hC in
theorem v33 : IsR (U1 m ρ c main_v33) (mixR (cr 0x3E647FBE#32) (cr 0x3D9F19A7#32) fun k j => CW 1 (up k) j) := by
  rw [show U1 m ρ c main_v33 = _ from Hand.hostOps0_main_v33 (E0 m ρ c)]
  exact mixV_val (fin32 _ (by decide)) (fin32 _ (by decide)) fun k j =>
    (sq_apply _ 1 128 _ _ 1 k (up k) j rfl (by simp [up])).trans (hC 1 (up k) j)

include hD in
theorem v38 : IsR (U1 m ρ c main_v38) (fun k j => DW 0 (lo k) j - DW 0 (up k) j) := by
  rw [show U1 m ρ c main_v38 = _ from Hand.hostOps0_main_v38 (E0 m ρ c)]
  exact IsR.sub (fun k j => (sq_apply _ 0 0 _ _ 0 k (lo k) j rfl (by simp [lo])).trans (hD 0 (lo k) j))
    (fun k j => (sq_apply _ 0 128 _ _ 0 k (up k) j rfl (by simp [up])).trans (hD 0 (up k) j))

include hD in
theorem v43 : IsR (U1 m ρ c main_v43) (fun k j => DW 1 (lo k) j - DW 1 (up k) j) := by
  rw [show U1 m ρ c main_v43 = _ from Hand.hostOps0_main_v43 (E0 m ρ c)]
  exact IsR.sub (fun k j => (sq_apply _ 1 0 _ _ 1 k (lo k) j rfl (by simp [lo])).trans (hD 1 (lo k) j))
    (fun k j => (sq_apply _ 1 128 _ _ 1 k (up k) j rfl (by simp [up])).trans (hD 1 (up k) j))

include hE in
theorem v47 : IsR (U1 m ρ c main_v47) (fun _ j => DB 0 j) := by
  rw [show U1 m ρ c main_v47 = _ from Hand.hostOps0_main_v47 (E0 m ρ c)]
  exact IsR1.vecRow (f := DB 0) (fun j => (rw_apply _ 0 _ _ 0 j rfl).trans (hE 0 j)) _

include hE in
theorem v50 : IsR (U1 m ρ c main_v50) (fun _ j => DB 1 j) := by
  rw [show U1 m ρ c main_v50 = _ from Hand.hostOps0_main_v50 (E0 m ρ c)]
  exact IsR1.vecRow (f := DB 1) (fun j => (rw_apply _ 1 _ _ 1 j rfl).trans (hE 1 j)) _

theorem v51 (k : Fin 128) : U1 m ρ c main_v51 (ix2 0 k) = m ((c : Thread nD τ).loc main_arg9) (ix1 k) := by
  rw [show U1 m ρ c main_v51 = _ from Hand.hostOps0_main_v51 (E0 m ρ c)]
  exact vecRow_apply _ _ 0 k
theorem v52 (k : Fin 128) : U1 m ρ c main_v52 (ix2 0 k) = m ((c : Thread nD τ).loc main_arg10) (ix1 k) := by
  rw [show U1 m ρ c main_v52 = _ from Hand.hostOps0_main_v52 (E0 m ρ c)]
  exact vecRow_apply _ _ 0 k

theorem v54 (k : Fin 128) : U3 m ρ c main_v54 (ix2 0 k) = m ((c : Thread nD τ).loc main_arg7) (ix1 k) := by
  rw [show U3 m ρ c main_v54 = _ from Hand.hostOps1_main_v54 (E2 m ρ c)]
  exact (vecRow_apply _ _ 0 k).trans (congrFun (Hand.E2_args m ρ c main_arg7 (by decide)) _)
theorem v55 (k : Fin 128) : U3 m ρ c main_v55 (ix2 0 k) = m ((c : Thread nD τ).loc main_arg8) (ix1 k) := by
  rw [show U3 m ρ c main_v55 = _ from Hand.hostOps1_main_v55 (E2 m ρ c)]
  exact (vecRow_apply _ _ 0 k).trans (congrFun (Hand.E2_args m ρ c main_arg8 (by decide)) _)
theorem v56 (k : Fin 40) : U3 m ρ c main_v56 (ix2 0 k) = m ((c : Thread nD τ).loc main_arg12) (ix1 k) := by
  rw [show U3 m ρ c main_v56 = _ from Hand.hostOps1_main_v56 (E2 m ρ c)]
  exact (vecRow_apply _ _ 0 k).trans (congrFun (Hand.E2_args m ρ c main_arg12 (by decide)) _)

end Weights

/-! ## The arrays the first pipeline hands to the second -/

theorem u3_0 : U3 m ρ c main_v53_0 = kArr (U1 m ρ) c :=
  (Hand.E3_of m ρ c main_v53_0 (by decide)).trans ((Hand.E2_arr m ρ c 13).trans (Hand.out0_13 (U1 m ρ) c))
theorem u3_1 : U3 m ρ c main_v53_1 = k0_pay4 (H1 (U1 m ρ) c) :=
  (Hand.E3_of m ρ c main_v53_1 (by decide)).trans ((Hand.E2_arr m ρ c 14).trans (Hand.out0_14 (U1 m ρ) c))
theorem u3_2 : U3 m ρ c main_v53_2 = preArr (U1 m ρ) c :=
  (Hand.E3_of m ρ c main_v53_2 (by decide)).trans ((Hand.E2_arr m ρ c 15).trans (Hand.out0_15 (U1 m ρ) c))
theorem u3_3 : U3 m ρ c main_v53_3 = dyArr (U1 m ρ) c :=
  (Hand.E3_of m ρ c main_v53_3 (by decide)).trans ((Hand.E2_arr m ρ c 16).trans (Hand.out0_16 (U1 m ρ) c))
theorem u3_4 : U3 m ρ c main_v53_4 = k0_pay5 (H1 (U1 m ρ) c) :=
  (Hand.E3_of m ρ c main_v53_4 (by decide)).trans ((Hand.E2_arr m ρ c 17).trans (Hand.out0_17 (U1 m ρ) c))
theorem u3_5 : U3 m ρ c main_v53_5 = k0_pay6 (H1 (U1 m ρ) c) :=
  (Hand.E3_of m ρ c main_v53_5 (by decide)).trans ((Hand.E2_arr m ρ c 18).trans (Hand.out0_18 (U1 m ρ) c))
theorem u3_26 : U3 m ρ c main_v26 = U1 m ρ c main_v26 :=
  (Hand.E3_of m ρ c main_v26 (by decide)).trans (Hand.E2_of_ne m ρ c main_v26 (by decide))

section Values

include hX hW hB in
theorem H0r : IsR (H0 (U1 m ρ) c) (h0 X W B) :=
  H0_val (U1 m ρ) c
    (by rw [show U1 m ρ c main_arg0 = _ from Hand.E1_args m ρ c main_arg0 (by decide)]; exact hX)
    (by rw [show U1 m ρ c main_arg2 = _ from Hand.E1_args m ρ c main_arg2 (by decide)]; exact hW) (v44 m ρ c hB)

include hA in
theorem Ar : IsR (U1 m ρ c main_arg1) A := by
  rw [show U1 m ρ c main_arg1 = _ from Hand.E1_args m ρ c main_arg1 (by decide)]; exact hA

include hX hA hW hB hC in
theorem H1r : IsR (H1 (U1 m ρ) c) (h1 A (h0 X W B) (CW 0)) :=
  H1_val (U1 m ρ) c (H0r m ρ c hX hW hB) (Ar m ρ c hA) (v12 m ρ c hC) (v19 m ρ c hC)

variable (hb : ∀ i j, ∑ k, (kz A i k * qc (h1 A (h0 X W B) (CW 0)) k j).natAbs ≤ 16777215)

include hX hA hW hB hC hD hE hb in
theorem cross_val (i : Fin 10000) (j : Fin 128) :
    crossArr (U3 m ρ) c (ix2 i j)
      = lnE (fun k => m ((c : Thread nD τ).loc main_arg7) (ix1 k)) (fun k => m ((c : Thread nD τ).loc main_arg8) (ix1 k))
          (h2 A (h0 X W B) (h1 A (h0 X W B) (CW 0)) (CW 1) i) j
        + lnE (fun k => m ((c : Thread nD τ).loc main_arg9) (ix1 k)) (fun k => m ((c : Thread nD τ).loc main_arg10) (ix1 k))
          (dy (h0 X W B) (DW 0) (DW 1) (DB 0) (DB 1) i) j := by
  refine (crossArr_val (U3 m ρ) c (A := A) (h := h0 X W B) (H := h1 A (h0 X W B) (CW 0)) (w1 := CW 1)
    (t := cr 0x3E647FBE#32) (d := cr 0x3F32FCDC#32) (e := cr 0x3D9F19A7#32) ?_ ?_ hb ?_ ?_ ?_ ?_ i j).trans ?_
  · intro b r k; rw [u3_0]; exact kArr_val (U1 m ρ) c (Ar m ρ c hA) b r k
  · intro k j; rw [u3_1]; exact p4 (H1r m ρ c hX hA hW hB hC) k j
  · rw [u3_2]; exact preArr_val (U1 m ρ) c (H0r m ρ c hX hW hB) (Ar m ρ c hA) (v12 m ρ c hC) (v19 m ρ c hC) (v33 m ρ c hC)
  · rw [u3_4]; exact p5 (H1r m ρ c hX hA hW hB hC)
  · rw [u3_5]; exact p6 (H1r m ρ c hX hA hW hB hC)
  · rw [u3_26]; exact v26 m ρ c hC
  · rw [u3_3, dyArr_val (U1 m ρ) c (H0r m ρ c hX hW hB) (v38 m ρ c hD) (v47 m ρ c hE) (v43 m ρ c hD) (v50 m ρ c hE),
      funext (v54 m ρ c), funext (v55 m ρ c), funext (v51 m ρ c), funext (v52 m ρ c)]
    rfl

theorem E4_cross : E4 m ρ c (Proc.devRef .tc main_v57_1) = crossArr (U3 m ρ) c :=
  (Hand.E4_arr m ρ c 12).trans (Hand.out1_12 (U3 m ρ) c)
theorem E4_logp : E4 m ρ c (Proc.devRef .tc main_v57_0) = logpArr (U3 m ρ) c :=
  (Hand.E4_arr m ρ c 11).trans (Hand.out1_11 (U3 m ρ) c)

theorem logp_val (i : Fin 10000) (j : Fin 40) :
    logpArr (U3 m ρ) c (ix2 i j) = logpE (logitsE (fun k => crossArr (U3 m ρ) c (ix2 i k)) (fun k j => m ((c : Thread nD τ).loc main_arg11) (ix2 k j))
      (fun j => m ((c : Thread nD τ).loc main_arg12) (ix1 j))) j := by
  rw [logpArr_val, show U3 m ρ c main_arg11 = _ from Hand.E3_args m ρ c main_arg11 (by decide), funext (v56 m ρ c)]

end Values

end Cert.KVal
-- ==== Proof.RefVals.lean ====
module

public import proofs.«01_k».proof.Proof.Spec
public import proofs.«01_k».proof.Proof.Gen.ReferenceIdeal.Read

@[expose] public section

/-! The reference's values, operation by operation, as the functions of `Spec`. -/

noncomputable section

namespace Cert.Ref

open Cert.ReferenceIdeal Cert.ReferenceIdeal.Gen Cert.ReferenceIdeal.Read Cert.Val
open Idealize.ShloMosaic Idealize.ShloMosaic.ValueIdx Idealize.ShloMosaic.StableHlo
open scoped BigOperators

variable {x0 : FVec Ideal S10000x128 .f32} {x1 : FVec Ideal S10000x10000 .f32} {x2 : FVec Ideal S128x128 .f32} {x3 : FVec Ideal S128 .f32}
  {x4 x5 : FVec Ideal S2x256x128 .f32} {x6 : FVec Ideal S2x128 .f32}
  {X : Fin 10000 → Fin 128 → ℝ} {A : Fin 10000 → Fin 10000 → ℝ} {W : Fin 128 → Fin 128 → ℝ} {B : Fin 128 → ℝ}
  {CW DW : Fin 2 → Fin 256 → Fin 128 → ℝ} {DB : Fin 2 → Fin 128 → ℝ}
  (hX : IsR x0 X) (hA : IsR x1 A) (hW : IsR x2 W) (hB : IsR1 x3 B)
  (hC : ∀ l k j, x4 (ix3 l k j) = ((CW l k j : ℝ) : EReal)) (hD : ∀ l k j, x5 (ix3 l k j) = ((DW l k j : ℝ) : EReal)) (hE : IsR x6 DB)

include hX hW hB in
theorem v4 : IsR (val_main_v4 (F := Ideal) x0 x2 x3) (h0 X W B) :=
  IsR.maxf (IsR.add (IsR.hmm _ rfl hX hW) (IsR.hrow (IsR1.hvecRow hB _) _)) (IsR.hcst (fin32 _ (by decide)) _)

include hX hA hW hB in
theorem v5 : IsR (val_main_v5 (F := Ideal) x0 x1 x2 x3) (fun i j => ∑ k, A i k * h0 X W B k j) :=
  IsR.hmm _ rfl hA (v4 hX hW hB)

include hC in
theorem v7 : IsR (val_main_v7 (F := Ideal) x4) (CW 0) := fun k j =>
  (sq_apply x4 0 0 _ _ 0 k k j rfl (by simp)).trans (hC 0 k j)
include hC in
theorem v49 : IsR (val_main_v49 (F := Ideal) x4) (CW 1) := fun k j =>
  (sq_apply x4 1 0 _ _ 1 k k j rfl (by simp)).trans (hC 1 k j)
include hD in
theorem v65 : IsR (val_main_v65 (F := Ideal) x5) (DW 0) := fun k j =>
  (sq_apply x5 0 0 _ _ 0 k k j rfl (by simp)).trans (hD 0 k j)
include hD in
theorem v76 : IsR (val_main_v76 (F := Ideal) x5) (DW 1) := fun k j =>
  (sq_apply x5 1 0 _ _ 1 k k j rfl (by simp)).trans (hD 1 k j)
include hE in
theorem v68 : IsR1 (val_main_v68 (F := Ideal) x6) (DB 0) := fun j => (rw_apply x6 0 _ _ 0 j rfl).trans (hE 0 j)
include hE in
theorem v79 : IsR1 (val_main_v79 (F := Ideal) x6) (DB 1) := fun j => (rw_apply x6 1 _ _ 1 j rfl).trans (hE 1 j)

include hX hA hW hB hC in
theorem v18 : IsR (val_main_v18 (F := Ideal) x0 x1 x2 x3 x4) (h1 A (h0 X W B) (CW 0)) :=
  IsR.maxf (IsR.add (IsR.add
      (IsR.mul (IsR.hcst (fin32 _ (by decide)) _) (IsR.hmm _ rfl (IsR.hcat (v5 hX hA hW hB) (v4 hX hW hB) _) (v7 hC)))
      (IsR.mul (IsR.hcst (fin32 _ (by decide)) _) (v5 hX hA hW hB)))
    (IsR.mul (IsR.hcst (fin32 _ (by decide)) _) (v4 hX hW hB))) (IsR.hcst (fin32 _ (by decide)) _)

include hA in
theorem v24 : IsR (val_main_v24 (F := Ideal) x1) (fun i k => ((kz A i k : ℤ) : ℝ)) :=
  (IsR.minf (IsR.hcst (fin32 0x42FE0000#32 (by decide)) _) (IsR.maxf (IsR.hcst (fin32 0xC3000000#32 (by decide)) _)
    (IsR.hround (IsR.sub (IsR.mul (IsR.hcst (fin32 0x437E0000#32 (by decide)) _) hA) (IsR.hcst (fin32 0x42FE0000#32 (by decide)) _))))).congr
    fun _ _ => clip_rnd _

theorem red1 : S10000x128.Reduces [1] S10000 := by decide
theorem red0 : S10000x128.Reduces [0] S128 := by decide

include hX hA hW hB hC in
theorem v28 : IsR (val_main_v28 (F := Ideal) x0 x1 x2 x3 x4) (fun _ j => mxR (h1 A (h0 X W B) (CW 0)) j) :=
  IsR.hmx (v18 hX hA hW hB hC) red0 _ _ _ _

include hX hA hW hB hC in
theorem v34 : IsR (val_main_v34 (F := Ideal) x0 x1 x2 x3 x4) (fun i j => ((qc (h1 A (h0 X W B) (CW 0)) i j : ℤ) : ℝ)) :=
  (IsR.minf (IsR.hcst (fin32 0x42FE0000#32 (by decide)) _) (IsR.maxf (IsR.hcst (fin32 0xC3000000#32 (by decide)) _)
    (IsR.hround (IsR.mul (v18 hX hA hW hB hC) (IsR.hrow (IsR.hdiv (IsR.hcst (fin32 0x42FE0000#32 (by decide)) _) (v28 hX hA hW hB hC)
      (fun _ j => (mxR_pos _ j).ne')) _))))).congr
    fun _ _ => clip_rnd _

theorem c127 : cr 0x42FE0000#32 ≠ 0 := by rw [cr_127]; norm_num
theorem c254 : cr 0x437E0000#32 ≠ 0 := by rw [cr_254]; norm_num
theorem c128 : cr 0x43000000#32 ≠ 0 := by rw [cr_128]; norm_num

include hX hA hW hB hC in
theorem v47 : IsR (val_main_v47 (F := Ideal) x0 x1 x2 x3 x4) (hi2 A (h1 A (h0 X W B) (CW 0))) :=
  IsR.add (IsR.hmm _ rfl (IsR.hdiv (v24 hA) (IsR.hcst (fin32 0x437E0000#32 (by decide)) _) fun _ _ => c254)
      (IsR.mul (v34 hX hA hW hB hC) (IsR.hrow (IsR.hdiv (v28 hX hA hW hB hC) (IsR.hcst (fin32 0x42FE0000#32 (by decide)) _) fun _ _ => c127) _)))
    (IsR.hrow (IsR.mul (IsR.hcst (fin32 0x3F000000#32 (by decide)) _) (IsR1.hvecRow (IsR.hcolSum (v18 hX hA hW hB hC) red0 _ _) _)) _)

include hX hA hW hB hC in
theorem v61 : IsR (val_main_v61 (F := Ideal) x0 x1 x2 x3 x4) (h2 A (h0 X W B) (h1 A (h0 X W B) (CW 0)) (CW 1)) :=
  IsR.maxf (IsR.add (IsR.add (IsR.add
      (IsR.mul (IsR.hcst (fin32 _ (by decide)) _) (IsR.hmm _ rfl (IsR.hcat (v47 hX hA hW hB hC) (v4 hX hW hB) _) (v49 hC)))
      (IsR.mul (IsR.hcst (fin32 _ (by decide)) _) (v47 hX hA hW hB hC)))
    (IsR.mul (IsR.hcst (fin32 _ (by decide)) _) (v4 hX hW hB))) (v18 hX hA hW hB hC)) (IsR.hcst (fin32 _ (by decide)) _)

include hX hW hB hD hE in
theorem v72 : IsR (val_main_v72 (F := Ideal) x0 x2 x3 x5 x6) (side (h0 X W B) (DW 0) (DB 0)) :=
  IsR.maxf (IsR.add (IsR.hmm _ rfl (IsR.hcat (v4 hX hW hB) (IsR.hneg (v4 hX hW hB)) _) (v65 hD))
    (IsR.hrow (IsR1.hvecRow (v68 hE) _) _)) (IsR.hcst (fin32 _ (by decide)) _)

include hX hW hB hD hE in
theorem v86 : IsR (val_main_v86 (F := Ideal) x0 x2 x3 x5 x6) (dy (h0 X W B) (DW 0) (DW 1) (DB 0) (DB 1)) :=
  IsR.add (IsR.maxf (IsR.add (IsR.hmm _ rfl (IsR.hcat (v72 hX hW hB hD hE) (IsR.hneg (v72 hX hW hB hD hE)) _) (v76 hD))
    (IsR.hrow (IsR1.hvecRow (v79 hE) _) _)) (IsR.hcst (fin32 _ (by decide)) _))
    (IsR.mul (IsR.hcst (fin32 _ (by decide)) _) (v4 hX hW hB))

/-! ## Normalised rows -/

/-- The mean of each row, as a column. -/
def meanT (u : FVec Ideal S10000x128 .f32) : FVec Ideal S10000x1 .f32 :=
  Host.divf (broadcastInDim S10000x1 ![0] bcast_S10000_S10000x1_0 (Host.reduceAdd u (constant S_ .f32 0x00000000#32) reducesTo_S10000x128_S10000_d1 h_S_))
    (broadcastInDim S10000x1 ![] bcast_S_S10000x1 (constant S_ .f32 0x43000000#32))

/-- Each row less its mean. -/
def devT (u : FVec Ideal S10000x128 .f32) : FVec Ideal S10000x128 .f32 :=
  subf u (broadcastInDim S10000x128 ![0, 1] bcast_S10000x1_S10000x128_0_1 (meanT u))

/-- The number of a row's elements less the degrees of freedom withheld, which are none. -/
def cntT : FVec Ideal S_ .f32 := subf (constant S_ .f32 0x43000000#32) (sitofp .f32 (constantI S_ 32 0#32))

/-- Each row's variance, as a column. -/
def varT (u : FVec Ideal S10000x128 .f32) : FVec Ideal S10000x1 .f32 :=
  select (broadcastInDim S10000x1 ![] bcast_S_S10000x1 (cmpf .ogt cntT (constant S_ .f32 0x00000000#32)))
    (Host.divf (broadcastInDim S10000x1 ![0] bcast_S10000_S10000x1_0
        (Host.reduceAdd (mulf (devT u) (devT u)) (constant S_ .f32 0x00000000#32) reducesTo_S10000x128_S10000_d1 h_S_))
      (broadcastInDim S10000x1 ![] bcast_S_S10000x1 cntT))
    (broadcastInDim S10000x1 ![] bcast_S_S10000x1 (constant S_ .f32 0x7FC00000#32))

/-- The rows normalised. -/
def lnT (u : FVec Ideal S10000x128 .f32) (g b : FVec Ideal S128 .f32) : FVec Ideal S10000x128 .f32 :=
  addf (Host.divf (mulf (broadcastInDim S10000x128 ![0, 1] bcast_S1x128_S10000x128_0_1 (broadcastInDim S1x128 ![1] bcast_S128_S1x128_1 g)) (devT u))
      (broadcastInDim S10000x128 ![0, 1] bcast_S10000x1_S10000x128_0_1
        (Host.sqrt (addf (varT u) (broadcastInDim S10000x1 ![] bcast_S_S10000x1 (constant S_ .f32 0x358637BD#32))))))
    (broadcastInDim S10000x128 ![0, 1] bcast_S1x128_S10000x128_0_1 (broadcastInDim S1x128 ![1] bcast_S128_S1x128_1 b))

theorem v104_eq (x0 x1 x2 x3 x4 x7 x8) : val_main_v104 (F := Ideal) x0 x1 x2 x3 x4 x7 x8 = lnT (val_main_v61 (F := Ideal) x0 x1 x2 x3 x4) x7 x8 := rfl
theorem v122_eq (x0 x2 x3 x5 x6 x9 x10) : val_main_v122 (F := Ideal) x0 x2 x3 x5 x6 x9 x10 = lnT (val_main_v86 (F := Ideal) x0 x2 x3 x5 x6) x9 x10 := rfl

section Ln
variable {u : FVec Ideal S10000x128 .f32} {f : Fin 10000 → Fin 128 → ℝ} (hu : IsR u f)

theorem cntT_val (z) : cntT z = ((cr 0x43000000#32 : ℝ) : EReal) := by
  show FloatOps.ofBits (F := Ideal) .f32 0x43000000#32 - (((0#32 : BitVec 32).toInt : ℝ) : EReal) = _
  rw [fin32 0x43000000#32 (by decide)]
  simp

include hu in
theorem devT_val : IsR (devT u) (fun i j => dev (f i) j) :=
  IsR.sub hu (IsR.hcol (IsR.hdiv (IsR1.hvecCol (IsR.hrowSum hu red1 _ _) _) (IsR.hcst (fin32 0x43000000#32 (by decide)) _) fun _ _ => c128) _)

include hu in
theorem varT_val : IsR (varT u) (fun i _ => vr (f i)) := fun i j => by
  have hc : cmpf .ogt cntT (constant (F := Ideal) S_ .f32 0x00000000#32) = fun _ => 1#1 := funext fun z => by
    show Scalar.cmpf .ogt (cntT z) (FloatOps.ofBits (F := Ideal) .f32 0x00000000#32) = 1#1
    rw [cntT_val, show (FloatOps.ofBits (F := Ideal) .f32 0x00000000#32) = (0 : EReal) from Ideal.ofBits_zero_f32, cr_128]
    have h : (0 : EReal) < ((128 : ℝ) : EReal) := by exact_mod_cast (by norm_num : (0 : ℝ) < 128)
    rw [Ideal.scalar_cmpf_def]; simp [Ideal.cmp, h]
  have hd : IsR (broadcastInDim S10000x1 ![] bcast_S_S10000x1 cntT) (fun _ _ => cr 0x43000000#32) := fun _ _ => cntT_val _
  unfold varT
  rw [hc]
  exact IsR.hdiv (IsR1.hvecCol (IsR.hrowSum (IsR.mul (devT_val hu) (devT_val hu)) red1 _ _) _) hd (fun _ _ => c128) i j

include hu in
theorem lnT_val (g b : FVec Ideal S128 .f32) (i : Fin 10000) (j : Fin 128) :
    lnT u g b (ix2 i j) = lnE (fun k => g (ix1 k)) (fun k => b (ix1 k)) (f i) j := by
  unfold lnT lnE
  rw [addf_apply, show ∀ (p q : FVec Ideal S10000x128 .f32) (k), Host.divf p q k = Ideal.div (p k) (q k) from fun _ _ _ => rfl, mulf_apply, hrow_apply, hvecRow_apply, hrow_apply, hvecRow_apply, devT_val hu i j,
    IsR.hcol (IsR.hsqrt (IsR.add (varT_val hu) (IsR.hcst (fin32 0x358637BD#32 (by decide)) _)) fun i _ => vr_pos (f i)) _ i j]
  refine congrArg (· + b (ix1 j)) ((Ideal.div_coe (Real.sqrt_pos.mpr (vr_pos (f i))).ne' _).trans ?_)
  rw [one_div]

end Ln

/-! ## The results -/

section Results
variable (x7 x8 x9 x10 : FVec Ideal S128 .f32) (x11 : FVec Ideal S128x40 .f32) (x12 : FVec Ideal S40 .f32)

/-- A row of the second result. -/
def crossE (X : Fin 10000 → Fin 128 → ℝ) (A : Fin 10000 → Fin 10000 → ℝ) (W : Fin 128 → Fin 128 → ℝ) (B : Fin 128 → ℝ)
    (CW DW : Fin 2 → Fin 256 → Fin 128 → ℝ) (DB : Fin 2 → Fin 128 → ℝ) (g1 b1 g2 b2 : Fin 128 → EReal) (i : Fin 10000) (j : Fin 128) : EReal :=
  lnE g1 b1 (h2 A (h0 X W B) (h1 A (h0 X W B) (CW 0)) (CW 1) i) j + lnE g2 b2 (dy (h0 X W B) (DW 0) (DW 1) (DB 0) (DB 1) i) j

include hX hA hW hB hC hD hE in
theorem v123 (i : Fin 10000) (j : Fin 128) :
    val_main_v123 (F := Ideal) x0 x1 x2 x3 x4 x5 x6 x7 x8 x9 x10 (ix2 i j)
      = crossE X A W B CW DW DB (fun k => x7 (ix1 k)) (fun k => x8 (ix1 k)) (fun k => x9 (ix1 k)) (fun k => x10 (ix1 k)) i j := by
  show val_main_v104 (F := Ideal) x0 x1 x2 x3 x4 x7 x8 (ix2 i j) + val_main_v122 (F := Ideal) x0 x2 x3 x5 x6 x9 x10 (ix2 i j) = _
  rw [v104_eq, v122_eq, lnT_val (v61 hX hA hW hB hC), lnT_val (v86 hX hW hB hD hE)]
  rfl

/-- The rows' log-softmax. -/
def lsmT (z : FVec Ideal S10000x40 .f32) : FVec Ideal S10000x40 .f32 :=
  have s := subf z (broadcastInDim S10000x40 ![0, 1] bcast_S10000x1_S10000x40_0_1 (broadcastInDim S10000x1 ![0] bcast_S10000_S10000x1_0
      (maximumf (broadcastInDim S10000 ![] bcast_S_S10000 (constant S_ .f32 0xFF800000#32))
        (Host.reduce FloatOps.maximumf z (constant S_ .f32 0xFF800000#32) reducesTo_S10000x40_S10000_d1 h_S_))))
  subf s (broadcastInDim S10000x40 ![0, 1] bcast_S10000x1_S10000x40_0_1 (Host.log (broadcastInDim S10000x1 ![0] bcast_S10000_S10000x1_0
      (Host.reduceAdd (Host.exp s) (constant S_ .f32 0x00000000#32) reducesTo_S10000x40_S10000_d1 h_S_))))

theorem v128_eq : val_main_v128 (F := Ideal) x0 x1 x2 x3 x4 x5 x6 x7 x8 x9 x10 x11 x12
    = lsmT (val_main_v127 (F := Ideal) x0 x1 x2 x3 x4 x5 x6 x7 x8 x9 x10 x11 x12) := rfl

theorem hlog_apply (u : FVec Ideal S10000x1 .f32) (k) : Host.log u k = Ideal.log (u k) := rfl
theorem red40 : S10000x40.Reduces [1] S10000 := by decide

theorem lsmT_val (z : FVec Ideal S10000x40 .f32) (i : Fin 10000) (j : Fin 40) : lsmT z (ix2 i j) = logpE (fun k => z (ix2 i k)) j := by
  have hs : ∀ k : Fin 40, subf z (broadcastInDim S10000x40 ![0, 1] bcast_S10000x1_S10000x40_0_1 (broadcastInDim S10000x1 ![0] bcast_S10000_S10000x1_0
      (maximumf (broadcastInDim S10000 ![] bcast_S_S10000 (constant S_ .f32 0xFF800000#32))
        (Host.reduce FloatOps.maximumf z (constant S_ .f32 0xFF800000#32) reducesTo_S10000x40_S10000_d1 h_S_)))) (ix2 i k)
      = z (ix2 i k) - maxE (fun k => z (ix2 i k)) := fun k => by
    rw [subf_apply, hcol_apply, hvecCol_apply, maximumf_apply, hrowMax_apply z _ red40]
    refine congrArg (z (ix2 i k) - ·) (max_eq_right ?_)
    exact (Finset.le_fold_max _).mpr (Or.inl le_rfl)
  unfold lsmT logpE
  rw [subf_apply, hs, hcol_apply]
  refine congrArg (z (ix2 i j) - maxE (fun k => z (ix2 i k)) - ·) ?_
  rw [hlog_apply, hvecCol_apply, hrowSum_apply _ red40]
  refine congrArg Ideal.log (Finset.sum_congr rfl fun k _ => ?_)
  exact congrArg Ideal.exp (hs k)

include hX hA hW hB hC hD hE in
theorem v128 (i : Fin 10000) (j : Fin 40) :
    val_main_v128 (F := Ideal) x0 x1 x2 x3 x4 x5 x6 x7 x8 x9 x10 x11 x12 (ix2 i j)
      = logpE (logitsE (crossE X A W B CW DW DB (fun k => x7 (ix1 k)) (fun k => x8 (ix1 k)) (fun k => x9 (ix1 k)) (fun k => x10 (ix1 k)) i)
          (fun k j => x11 (ix2 k j)) (fun j => x12 (ix1 j))) j := by
  rw [v128_eq, lsmT_val]
  refine congrArg (logpE · j) (funext fun k => ?_)
  show Host.dotGeneral (F := Ideal) dot_S10000x128_S128x40_S10000x40_1_0_0_1_n_n none (val_main_v123 (F := Ideal) x0 x1 x2 x3 x4 x5 x6 x7 x8 x9 x10) x11 (ix2 i k)
    + broadcastInDim S10000x40 ![0, 1] bcast_S1x40_S10000x40_0_1 (broadcastInDim S1x40 ![1] bcast_S40_S1x40_1 x12) (ix2 i k) = _
  rw [hmm_apply dot_S10000x128_S128x40_S10000x40_1_0_0_1_n_n rfl, hrow_apply, hvecRow_apply]
  refine congrArg (· + x12 (ix1 k)) (Finset.sum_congr rfl fun l _ => ?_)
  rw [v123 hX hA hW hB hC hD hE]

end Results

end Cert.Ref
-- ==== Proof.Pre.lean ====
module

public import proofs.«01_k».proof.Proof.RefVals
public import proofs.«01_k».proof.Proof.Gen.Pre_in_range

@[expose] public section

/-! The precondition read: the arguments hold real numbers, and the integer product stays below `2 ^ 24`. -/

noncomputable section

namespace Cert.PreRead

open Cert.Val Cert.ReferenceIdeal.Read
open Idealize.ShloMosaic Idealize.ShloMosaic.ValueIdx
open scoped BigOperators

attribute [local instance] Cert.Pre_in_range.Gen.facts Cert.ReferenceIdeal.Gen.facts

theorem ofBool_true {b : Bool} (h : BitVec.ofBool b = 1#1) : b = true := by cases b <;> simp_all

/-- Below `⊤` in magnitude: a real number. -/
theorem real_of {x : EReal} (h : max x (-x) < ⊤) : x = ((x.toReal : ℝ) : EReal) := by
  refine (EReal.coe_toReal ?_ ?_).symm
  · rintro rfl; simp at h
  · rintro rfl; simp at h

theorem lt_of_cmpf {s : Shape} {u v : FVec Ideal s .f32} (h : cmpf .olt u v = fun _ => 1#1) (i : s.Idx) : u i < v i := by
  have h' : Ideal.cmp .olt (u i) (v i) = 1#1 := congrFun h i
  simpa [Ideal.cmp] using ofBool_true h'

theorem real_of_cmpf {s : Shape} {u : FVec Ideal s .f32} (hb : Shape.BroadcastsInDim ⟨0, ![]⟩ s (![] : Fin 0 → Fin s.rank))
    (h : cmpf .olt (Host.absf u) (broadcastInDim s ![] hb (constant ⟨0, ![]⟩ .f32 0x7F800000#32)) = fun _ => 1#1) (i : s.Idx) :
    u i = (((u i).toReal : ℝ) : EReal) := by
  have h' : max (u i) (-(u i)) < Ideal.ofBits .f32 0x7F800000#32 := lt_of_cmpf h i
  rw [inf_bits] at h'
  exact real_of h'

variable (x0 : FVec Ideal Cert.Pre_in_range.S10000x128 .f32) (x1 : FVec Ideal Cert.Pre_in_range.S10000x10000 .f32)
  (x2 : FVec Ideal Cert.Pre_in_range.S128x128 .f32) (x3 : FVec Ideal Cert.Pre_in_range.S128 .f32)
  (x4 x5 : FVec Ideal Cert.Pre_in_range.S2x256x128 .f32) (x6 : FVec Ideal Cert.Pre_in_range.S2x128 .f32)
  (x7 x8 x9 x10 : FVec Ideal Cert.Pre_in_range.S128 .f32) (x11 : FVec Ideal Cert.Pre_in_range.S128x40 .f32)
  (x12 : FVec Ideal Cert.Pre_in_range.S40 .f32)

/-- The precondition's last component, over the reference's own integers. -/
theorem fn_last : (Cert.Pre_in_range.fn (F := Ideal) x0 x1 x2 x3 x4 x5 x6 x7 x8 x9 x10 x11 x12).2.2.2.2.2.2.2
    = cmpf .olt (Host.dotGeneral (F := Ideal) Cert.Pre_in_range.dot_S10000x10000_S10000x128_S10000x128_1_0_0_1_n_n none
          (Host.absf (φ := .f32) (val_main_v24 (F := Ideal) x1)) (Host.absf (φ := .f32) (val_main_v34 (F := Ideal) x0 x1 x2 x3 x4)))
        (broadcastInDim Cert.Pre_in_range.S10000x128 ![] Cert.Pre_in_range.Facts.bcast_S_S10000x128 (constant Cert.Pre_in_range.S_ .f32 0x4B800000#32)) := rfl

theorem bound_of {z q : Fin 10000 → ℤ} (h : ∑ k, |((z k : ℤ) : ℝ)| * |((q k : ℤ) : ℝ)| < 16777216) :
    ∑ k, (z k * q k).natAbs ≤ 16777215 := by
  have e : ((∑ k, (z k * q k).natAbs : ℕ) : ℝ) = ∑ k, |((z k : ℤ) : ℝ)| * |((q k : ℤ) : ℝ)| := by
    push_cast
    exact Finset.sum_congr rfl fun k _ => by
      rw [← abs_mul, ← Int.cast_mul, Nat.cast_natAbs, Int.cast_abs]
  rw [← e] at h
  have : (∑ k, (z k * q k).natAbs) < 16777216 := by exact_mod_cast h
  omega

/-- What the precondition gives. -/
theorem of_pre
    (h : (Cert.Pre_in_range.fn (F := Ideal) x0 x1 x2 x3 x4 x5 x6 x7 x8 x9 x10 x11 x12).1 = (fun _ => 1#1)
      ∧ (Cert.Pre_in_range.fn (F := Ideal) x0 x1 x2 x3 x4 x5 x6 x7 x8 x9 x10 x11 x12).2.1 = (fun _ => 1#1)
      ∧ (Cert.Pre_in_range.fn (F := Ideal) x0 x1 x2 x3 x4 x5 x6 x7 x8 x9 x10 x11 x12).2.2.1 = (fun _ => 1#1)
      ∧ (Cert.Pre_in_range.fn (F := Ideal) x0 x1 x2 x3 x4 x5 x6 x7 x8 x9 x10 x11 x12).2.2.2.1 = (fun _ => 1#1)
      ∧ (Cert.Pre_in_range.fn (F := Ideal) x0 x1 x2 x3 x4 x5 x6 x7 x8 x9 x10 x11 x12).2.2.2.2.1 = (fun _ => 1#1)
      ∧ (Cert.Pre_in_range.fn (F := Ideal) x0 x1 x2 x3 x4 x5 x6 x7 x8 x9 x10 x11 x12).2.2.2.2.2.1 = (fun _ => 1#1)
      ∧ (Cert.Pre_in_range.fn (F := Ideal) x0 x1 x2 x3 x4 x5 x6 x7 x8 x9 x10 x11 x12).2.2.2.2.2.2.1 = (fun _ => 1#1)
      ∧ (Cert.Pre_in_range.fn (F := Ideal) x0 x1 x2 x3 x4 x5 x6 x7 x8 x9 x10 x11 x12).2.2.2.2.2.2.2 = (fun _ => 1#1)) :
    ∃ (X : Fin 10000 → Fin 128 → ℝ) (A : Fin 10000 → Fin 10000 → ℝ) (W : Fin 128 → Fin 128 → ℝ) (B : Fin 128 → ℝ)
      (CW DW : Fin 2 → Fin 256 → Fin 128 → ℝ) (DB : Fin 2 → Fin 128 → ℝ),
      IsR x0 X ∧ IsR x1 A ∧ IsR x2 W ∧ IsR1 x3 B ∧ (∀ l k j, x4 (ix3 l k j) = ((CW l k j : ℝ) : EReal))
        ∧ (∀ l k j, x5 (ix3 l k j) = ((DW l k j : ℝ) : EReal)) ∧ IsR x6 DB
        ∧ ∀ i j, ∑ k, (kz A i k * qc (h1 A (h0 X W B) (CW 0)) k j).natAbs ≤ 16777215 := by
  obtain ⟨c0, c1, c2, c3, c4, c5, c6, c7⟩ := h
  have hX : IsR x0 (fun i j => (x0 (ix2 i j)).toReal) := fun i j => real_of_cmpf _ c0 _
  have hA : IsR x1 (fun i j => (x1 (ix2 i j)).toReal) := fun i j => real_of_cmpf _ c1 _
  have hW : IsR x2 (fun i j => (x2 (ix2 i j)).toReal) := fun i j => real_of_cmpf _ c2 _
  have hB : IsR1 x3 (fun j => (x3 (ix1 j)).toReal) := fun j => real_of_cmpf _ c3 _
  have hC : ∀ l k j, x4 (ix3 l k j) = (((x4 (ix3 l k j)).toReal : ℝ) : EReal) := fun l k j => real_of_cmpf _ c4 _
  have hD : ∀ l k j, x5 (ix3 l k j) = (((x5 (ix3 l k j)).toReal : ℝ) : EReal) := fun l k j => real_of_cmpf _ c5 _
  have hE : IsR x6 (fun i j => (x6 (ix2 i j)).toReal) := fun i j => real_of_cmpf _ c6 _
  refine ⟨_, _, _, _, fun l k j => (x4 (ix3 l k j)).toReal, fun l k j => (x5 (ix3 l k j)).toReal, _, hX, hA, hW, hB, hC, hD, hE, fun i j => bound_of ?_⟩
  rw [fn_last] at c7
  have hl := lt_of_cmpf c7 (ix2 i j)
  rw [IsR.hmm Cert.Pre_in_range.dot_S10000x10000_S10000x128_S10000x128_1_0_0_1_n_n rfl (IsR.habs (Cert.Ref.v24 hA)) (IsR.habs (Cert.Ref.v34 hX hA hW hB hC)) i j] at hl
  have hc : IsR (broadcastInDim Cert.Pre_in_range.S10000x128 ![] Cert.Pre_in_range.Facts.bcast_S_S10000x128 (constant Cert.Pre_in_range.S_ .f32 0x4B800000#32)) (fun _ _ => cr 0x4B800000#32) :=
    IsR.hcst (fin32 _ (by decide)) _
  rw [hc i j, cr_bound] at hl
  exact EReal.coe_lt_coe_iff.mp hl

end Cert.PreRead
-- ==== Proof.Value.lean ====
module

public import proofs.«01_k».proof.Defs
public import proofs.«01_k».proof.Proof.KFinal
public import proofs.«01_k».proof.Proof.Pre

@[expose] public section

/-! The kernel's two results and the reference's two are the same arrays. -/

noncomputable section

namespace Cert.Proof

open Cert.Val Cert.ReferenceIdeal.Read
open Cert.KernelIdeal (nD τ sig main_arg0 main_arg1 main_arg2 main_arg3 main_arg4 main_arg5 main_arg6 main_arg7 main_arg8 main_arg9 main_arg10 main_arg11 main_arg12)
open Cert.KernelIdeal.Hand (U3 crossArr logpArr)
open Idealize.ShloMosaic hiding ix1 ix2 ix3
open Idealize.ShloMosaic.TcCoe Idealize.ShloMosaic.ValueIdx

attribute [local instance] Cert.Pre_in_range.Gen.facts Cert.ReferenceIdeal.Gen.facts Cert.KernelIdeal.Gen.facts

variable (m : (ℓ : Loc nD τ sig) → Buf (Elt Ideal) ℓ) (ρ : Dev nD → PrngReg) (c : Dev nD)

/-- The reference's first result over the arguments in the kernel's memory. -/
def refLogp : Cert.ReferenceIdeal.S10000x40.Idx → EReal :=
  val_main_v128 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12))

/-- The reference's second result over the arguments in the kernel's memory. -/
def refCross : Cert.ReferenceIdeal.S10000x128.Idx → EReal :=
  val_main_v123 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

theorem values (h : Cert.Pre_KernelIdeal_in_range m) :
    logpArr (U3 m ρ) c = refLogp m c ∧ crossArr (U3 m ρ) c = refCross m c := by
  obtain ⟨X, A, W, B, CW, DW, DB, hX, hA, hW, hB, hC, hD, hE, hb⟩ := Cert.PreRead.of_pre _ _ _ _ _ _ _ _ _ _ _ _ _ (h c)
  have hc : ∀ i j, crossArr (U3 m ρ) c (ix2 i j) = _ := fun i j => Cert.KVal.cross_val m ρ c hX hA hW hB hC hD hE hb i j
  have hL : ∀ (i : Fin 10000) (j : Fin 40), logpArr (U3 m ρ) c (ix2 i j) = refLogp m c (ix2 i j) := fun i j => by
    rw [Cert.KVal.logp_val, funext (hc i)]
    exact (Cert.Ref.v128 hX hA hW hB hC hD hE _ _ _ _ _ _ i j).symm
  have hX' : ∀ (i : Fin 10000) (j : Fin 128), crossArr (U3 m ρ) c (ix2 i j) = refCross m c (ix2 i j) := fun i j =>
    (hc i j).trans (Cert.Ref.v123 hX hA hW hB hC hD hE _ _ _ _ i j).symm
  constructor
  · funext y
    have e : y = ix2 (y 0) (y 1) := funext fun a => by fin_cases a <;> rfl
    exact (congrArg _ e).trans ((hL (y 0) (y 1)).trans (congrArg _ e.symm))
  · funext y
    have e : y = ix2 (y 0) (y 1) := funext fun a => by fin_cases a <;> rfl
    exact (congrArg _ e).trans ((hX' (y 0) (y 1)).trans (congrArg _ e.symm))

/-! Equal arguments, equal results. -/

theorem logp_congr {x0 y0 : FVec Ideal Cert.ReferenceIdeal.S10000x128 .f32} {x1 y1 : FVec Ideal Cert.ReferenceIdeal.S10000x10000 .f32} {x2 y2 : FVec Ideal Cert.ReferenceIdeal.S128x128 .f32} {x3 y3 : FVec Ideal Cert.ReferenceIdeal.S128 .f32} {x4 y4 : FVec Ideal Cert.ReferenceIdeal.S2x256x128 .f32} {x5 y5 : FVec Ideal Cert.ReferenceIdeal.S2x256x128 .f32} {x6 y6 : FVec Ideal Cert.ReferenceIdeal.S2x128 .f32} {x7 y7 : FVec Ideal Cert.ReferenceIdeal.S128 .f32} {x8 y8 : FVec Ideal Cert.ReferenceIdeal.S128 .f32} {x9 y9 : FVec Ideal Cert.ReferenceIdeal.S128 .f32} {x10 y10 : FVec Ideal Cert.ReferenceIdeal.S128 .f32} {x11 y11 : FVec Ideal Cert.ReferenceIdeal.S128x40 .f32} {x12 y12 : FVec Ideal Cert.ReferenceIdeal.S40 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    val_main_v128 (F := Ideal) x0 x1 x2 x3 x4 x5 x6 x7 x8 x9 x10 x11 x12 = val_main_v128 (F := Ideal) y0 y1 y2 y3 y4 y5 y6 y7 y8 y9 y10 y11 y12 := by
  subst h0 h1 h2 h3 h4 h5 h6 h7 h8 h9 h10 h11 h12; rfl

theorem cross_congr {x0 y0 : FVec Ideal Cert.ReferenceIdeal.S10000x128 .f32} {x1 y1 : FVec Ideal Cert.ReferenceIdeal.S10000x10000 .f32} {x2 y2 : FVec Ideal Cert.ReferenceIdeal.S128x128 .f32} {x3 y3 : FVec Ideal Cert.ReferenceIdeal.S128 .f32} {x4 y4 : FVec Ideal Cert.ReferenceIdeal.S2x256x128 .f32} {x5 y5 : FVec Ideal Cert.ReferenceIdeal.S2x256x128 .f32} {x6 y6 : FVec Ideal Cert.ReferenceIdeal.S2x128 .f32} {x7 y7 : FVec Ideal Cert.ReferenceIdeal.S128 .f32} {x8 y8 : FVec Ideal Cert.ReferenceIdeal.S128 .f32} {x9 y9 : FVec Ideal Cert.ReferenceIdeal.S128 .f32} {x10 y10 : FVec Ideal Cert.ReferenceIdeal.S128 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) :
    val_main_v123 (F := Ideal) x0 x1 x2 x3 x4 x5 x6 x7 x8 x9 x10 = val_main_v123 (F := Ideal) y0 y1 y2 y3 y4 y5 y6 y7 y8 y9 y10 := by
  subst h0 h1 h2 h3 h4 h5 h6 h7 h8 h9 h10; rfl

end Cert.Proof
-- ==== Proof.lean ====
module

public import proofs.«01_k».proof.Defs
public import proofs.«01_k».proof.Proof.FrameBits
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range

@[expose] public section

noncomputable section

namespace Cert.Proof

open Idealize.ShloMosaic Idealize.SL.Sem

attribute [local instance] Cert.Pre_in_range.Gen.facts Cert.ReferenceIdeal.Gen.facts Cert.KernelIdeal.Gen.facts

/-! ## The frames -/

theorem frame_ideal : Cert.quiescent_KernelIdeal := fun m ρ _ => Cert.KernelIdeal.Hand.frame_main m ρ

theorem frame_ideal_in_range : Cert.quiescent_KernelIdeal_pre_in_range := fun m ρ _ => Cert.KernelIdeal.Hand.frame_main m ρ

/-- The reference's frame; its counters because it declares none. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ref_in_range : Cert.quiescent_ReferenceIdeal_pre_in_range := fun m ρ _ => frame_ref m ρ trivial

/-! ## The named constant -/

theorem preserves : Cert.preserves_Kernel_KernelIdeal := IdealRules.named_const.statement _ _ _ _ _ rfl

/-! ## The values -/

theorem algebraic : Cert.algebraic_KernelIdeal_ReferenceIdeal_pre_in_range := by
  intro m ρ m' ρ' hpre hag
  refine ⟨fun c => refLogp m c, fun c => refCross m c, ?_, ?_⟩
  · refine (θ_run _ _ _).mono (fun r h c => ⟨?_, ?_, ?_⟩) (Cert.KernelIdeal.Hand.run_main (F := Ideal) m ρ)
    · exact (h.1 c _ (Cert.KernelIdeal.Hand.mem_uc Cert.KernelIdeal.main_v57_0 (by decide))).trans
        ((Cert.KVal.E4_logp m ρ c).trans (values m ρ c hpre).1)
    · exact (h.1 c _ (Cert.KernelIdeal.Hand.mem_uc Cert.KernelIdeal.main_v57_1 (by decide))).trans
        ((Cert.KVal.E4_cross m ρ c).trans (values m ρ c hpre).2)
    · exact ⟨(h.1 c _ (Cert.KernelIdeal.Hand.mem_uc Cert.KernelIdeal.main_arg0 (by decide))).trans (Cert.KernelIdeal.Hand.E4_main_arg0 m ρ c),
        (h.1 c _ (Cert.KernelIdeal.Hand.mem_uc Cert.KernelIdeal.main_arg1 (by decide))).trans (Cert.KernelIdeal.Hand.E4_main_arg1 m ρ c),
        (h.1 c _ (Cert.KernelIdeal.Hand.mem_uc Cert.KernelIdeal.main_arg2 (by decide))).trans (Cert.KernelIdeal.Hand.E4_main_arg2 m ρ c),
        (h.1 c _ (Cert.KernelIdeal.Hand.mem_uc Cert.KernelIdeal.main_arg3 (by decide))).trans (Cert.KernelIdeal.Hand.E4_main_arg3 m ρ c),
        (h.1 c _ (Cert.KernelIdeal.Hand.mem_uc Cert.KernelIdeal.main_arg4 (by decide))).trans (Cert.KernelIdeal.Hand.E4_main_arg4 m ρ c),
        (h.1 c _ (Cert.KernelIdeal.Hand.mem_uc Cert.KernelIdeal.main_arg5 (by decide))).trans (Cert.KernelIdeal.Hand.E4_main_arg5 m ρ c),
        (h.1 c _ (Cert.KernelIdeal.Hand.mem_uc Cert.KernelIdeal.main_arg6 (by decide))).trans (Cert.KernelIdeal.Hand.E4_main_arg6 m ρ c),
        (h.1 c _ (Cert.KernelIdeal.Hand.mem_uc Cert.KernelIdeal.main_arg7 (by decide))).trans (Cert.KernelIdeal.Hand.E4_main_arg7 m ρ c),
        (h.1 c _ (Cert.KernelIdeal.Hand.mem_uc Cert.KernelIdeal.main_arg8 (by decide))).trans (Cert.KernelIdeal.Hand.E4_main_arg8 m ρ c),
        (h.1 c _ (Cert.KernelIdeal.Hand.mem_uc Cert.KernelIdeal.main_arg9 (by decide))).trans (Cert.KernelIdeal.Hand.E4_main_arg9 m ρ c),
        (h.1 c _ (Cert.KernelIdeal.Hand.mem_uc Cert.KernelIdeal.main_arg10 (by decide))).trans (Cert.KernelIdeal.Hand.E4_main_arg10 m ρ c),
        (h.1 c _ (Cert.KernelIdeal.Hand.mem_uc Cert.KernelIdeal.main_arg11 (by decide))).trans (Cert.KernelIdeal.Hand.E4_main_arg11 m ρ c),
        (h.1 c _ (Cert.KernelIdeal.Hand.mem_uc Cert.KernelIdeal.main_arg12 (by decide))).trans (Cert.KernelIdeal.Hand.E4_main_arg12 m ρ c)⟩
  · refine (θ_run _ _ _).mono (fun r h c => ?_) (Cert.ReferenceIdeal.Value.run (F := Ideal) m' ρ')
    obtain ⟨e0, e1, e2, e3, e4, e5, e6, e7, e8, e9, e10, e11, e12⟩ := hag c
    obtain ⟨h0, h1, h2⟩ := h c
    refine ⟨h0.trans ?_, h1.trans ?_, h2⟩
    · exact (Cert.ReferenceIdeal.Read.val_main_v128_eq (F := Ideal) _).trans (logp_congr e0 e1 e2 e3 e4 e5 e6 e7 e8 e9 e10 e11 e12)
    · exact (Cert.ReferenceIdeal.Read.val_main_v123_eq (F := Ideal) _).trans (cross_congr e0 e1 e2 e3 e4 e5 e6 e7 e8 e9 e10)

theorem claim : Cert.Claim := ⟨Cert.Kernel.Gen.facts, Cert.KernelIdeal.Gen.facts, Cert.ReferenceIdeal.Gen.facts, Cert.Pre_in_range.Gen.facts,
  frame_kernel, frame_ideal, frame_ideal_in_range, frame_ref, frame_ref_in_range, preserves, algebraic⟩

end Cert.Proof

end
